-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 1024]⟩ ⟨3, ![1, 1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S4x256x1024 : Shape := ⟨3, ![4, 256, 1024]⟩
abbrev S3x256x1024 : Shape := ⟨3, ![3, 256, 1024]⟩
abbrev S8x4096x128 : Shape := ⟨3, ![8, 4096, 128]⟩
abbrev S4x4096x128 : Shape := ⟨3, ![4, 4096, 128]⟩
abbrev S8x256x128 : Shape := ⟨3, ![8, 256, 128]⟩
abbrev S4 : Shape := ⟨1, ![4]⟩
abbrev S3 : Shape := ⟨1, ![3]⟩
abbrev S_ : Shape := ⟨0, ![]⟩
abbrev S256x1024 : Shape := ⟨2, ![256, 1024]⟩
abbrev S1 : Shape := ⟨1, ![1]⟩
abbrev S1x4096x128 : Shape := ⟨3, ![1, 4096, 128]⟩
abbrev S4096x128 : Shape := ⟨2, ![4096, 128]⟩
abbrev S1x4096x1x128 : Shape := ⟨4, ![1, 4096, 1, 128]⟩
abbrev S256x128 : Shape := ⟨2, ![256, 128]⟩
abbrev S1x256x128 : Shape := ⟨3, ![1, 256, 128]⟩
abbrev S256x4096 : Shape := ⟨2, ![256, 4096]⟩
abbrev S256 : Shape := ⟨1, ![256]⟩
abbrev S256x1 : Shape := ⟨2, ![256, 1]⟩
abbrev S128x1024 : Shape := ⟨2, ![128, 1024]⟩

abbrev nBuf : Space → Nat
  | .hbm => 6
  | .vmem => 11
  | .smem => 0
  | _ => 0

abbrev bufTy : (tb : Table) → Fin (tcTables nBuf tb) → BufTy
  | .hbm, ⟨0, _⟩ => ⟨S1x256x1024, .bf16⟩
  | .hbm, ⟨1, _⟩ => ⟨S1024x1024, .bf16⟩
  | .hbm, ⟨2, _⟩ => ⟨S1x4096x32x128, .f32⟩
  | .hbm, ⟨3, _⟩ => ⟨S1x4096x32x128, .f32⟩
  | .hbm, ⟨4, _⟩ => ⟨S1024x1024, .bf16⟩
  | .hbm, ⟨5, _⟩ => ⟨S1x256x1024, .f32⟩
  | .local _ .vmem, ⟨0, _⟩ => ⟨S1x256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x256x1024, .f32⟩
  | .local _ .vmem, ⟨4, _⟩ => ⟨S4x256x1024, .bf16⟩
  | .local _ .vmem, ⟨5, _⟩ => ⟨S4x256x1024, .bf16⟩
  | .local _ .vmem, ⟨6, _⟩ => ⟨S3x256x1024, .bf16⟩
  | .local _ .vmem, ⟨7, _⟩ => ⟨S8x4096x128, .bf16⟩
  | .local _ .vmem, ⟨8, _⟩ => ⟨S8x4096x128, .bf16⟩
  | .local _ .vmem, ⟨9, _⟩ => ⟨S4x4096x128, .f32⟩
  | .local _ .vmem, ⟨10, _⟩ => ⟨S8x256x128, .bf16⟩
  | _, _ => ⟨S1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : Index := Scalar.indexCast v2
  let c0_12 : Index := 0#32
  let c0_13 : Index := 0#32
  ![v15.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_18 : BitVec 32 := 0#32
  let c0_i32_19 : BitVec 32 := 0#32
  ![v2.toNat, 0, 0]
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_16 : BitVec 32 := 1#32
  let v19 : BitVec 32 := Scalar.muli v4 c1_i32_16
  let v20 : BitVec 32 := Scalar.addi c0_i32_17 v19
  v20.toNat
def k0_off3 (d0 : Dev nD) (c0_i32_22 : BitVec 32) : Fin 4 → Nat :=
  let c0_i32_23 : BitVec 32 := 0#32
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v29 : BitVec 32 := Scalar.muli v2 c8_i32
  let v30 : BitVec 32 := Scalar.addi v29 c0_i32_22
  let c0_i32_29 : BitVec 32 := 0#32
  ![0, 0, v30.toNat, 0]
def k0_off4 (d0 : Dev nD) (c0_i32_394 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v381 : BitVec 32 := Scalar.subi v2 c0_i32_394
  let c8_i32_395 : BitVec 32 := 8#32
  let v382 : BitVec 32 := Scalar.addi v381 c8_i32_395
  let c4_i32_396 : BitVec 32 := 4#32
  let v383 : BitVec 32 := Scalar.remsi v382 c4_i32_396
  let v384 : Index := Scalar.indexCast v383
  let c0_397 : Index := 0#32
  let c0_398 : Index := 0#32
  ![v384.toNat, 0, 0]
@[reducible] def k0_t1_loop : Scf.Loop 32 :=
  let c0_i32_443 : BitVec 32 := 0#32
  let c8_i32_444 : BitVec 32 := 8#32
  let v487 : BitVec 32 := Scalar.addi c0_i32_443 c8_i32_444
  let c1_i32_445 : BitVec 32 := 1#32
  ⟨c0_i32_443, v487, c1_i32_445⟩
def k0_off5 (k0_t1 : Fin k0_t1_loop.trips) : Fin 3 → Nat :=
  let c0_i32_443 : BitVec 32 := 0#32
  let c1_i32_445 : BitVec 32 := 1#32
  let arg18 : BitVec 32 := Scf.iv c0_i32_443 c1_i32_445 k0_t1
  let v1021 : Index := Scalar.indexCast arg18
  let c0_805 : Index := 0#32
  let c0_806 : Index := 0#32
  ![v1021.toNat, 0, 0]
def k0_off6 (k0_t1 : Fin k0_t1_loop.trips) : Fin 3 → Nat :=
  let c0_i32_443 : BitVec 32 := 0#32
  let c1_i32_445 : BitVec 32 := 1#32
  let arg18 : BitVec 32 := Scf.iv c0_i32_443 c1_i32_445 k0_t1
  let v1024 : Index := Scalar.indexCast arg18
  let c0_807 : Index := 0#32
  let c0_808 : Index := 0#32
  ![v1024.toNat, 0, 0]
def k0_off7 (k0_t1 : Fin k0_t1_loop.trips) : Fin 2 → Nat :=
  let c0_i32_443 : BitVec 32 := 0#32
  let c1_i32_445 : BitVec 32 := 1#32
  let arg18 : BitVec 32 := Scf.iv c0_i32_443 c1_i32_445 k0_t1
  let c128_i32 : BitVec 32 := 128#32
  let v1047 : BitVec 32 := Scalar.muli arg18 c128_i32
  let v1048 : Index := Scalar.indexCast v1047
  let c0_817 : Index := 0#32
  ![v1048.toNat, 0]
def k0_off8 (d0 : Dev nD) (c1_i32_464 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v508 : BitVec 32 := Scalar.subi v2 c1_i32_464
  let c8_i32_465 : BitVec 32 := 8#32
  let v509 : BitVec 32 := Scalar.addi v508 c8_i32_465
  let c4_i32_466 : BitVec 32 := 4#32
  let v510 : BitVec 32 := Scalar.remsi v509 c4_i32_466
  let c0_i32_471 : BitVec 32 := 0#32
  let c0_i32_472 : BitVec 32 := 0#32
  ![v510.toNat, 0, 0]
def k0_dev4 (d0 : Dev nD) : Nat :=
  let c0_i32_470 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_469 : BitVec 32 := 1#32
  let v511 : BitVec 32 := Scalar.muli v4 c1_i32_469
  let v512 : BitVec 32 := Scalar.addi c0_i32_470 v511
  v512.toNat
@[reducible] def k0_t2_loop : Scf.Loop 32 :=
  let c0_i32_526 : BitVec 32 := 0#32
  let c8_i32_527 : BitVec 32 := 8#32
  let v627 : BitVec 32 := Scalar.addi c0_i32_526 c8_i32_527
  let c1_i32_528 : BitVec 32 := 1#32
  ⟨c0_i32_526, v627, c1_i32_528⟩
def k0_off9 (k0_t2 : Fin k0_t2_loop.trips) : Fin 3 → Nat :=
  let c0_i32_526 : BitVec 32 := 0#32
  let c1_i32_528 : BitVec 32 := 1#32
  let arg18 : BitVec 32 := Scf.iv c0_i32_526 c1_i32_528 k0_t2
  let v1021 : Index := Scalar.indexCast arg18
  let c0_805 : Index := 0#32
  let c0_806 : Index := 0#32
  ![v1021.toNat, 0, 0]
def k0_off10 (k0_t2 : Fin k0_t2_loop.trips) : Fin 3 → Nat :=
  let c0_i32_526 : BitVec 32 := 0#32
  let c1_i32_528 : BitVec 32 := 1#32
  let arg18 : BitVec 32 := Scf.iv c0_i32_526 c1_i32_528 k0_t2
  let v1024 : Index := Scalar.indexCast arg18
  let c0_807 : Index := 0#32
  let c0_808 : Index := 0#32
  ![v1024.toNat, 0, 0]
def k0_off11 (k0_t2 : Fin k0_t2_loop.trips) : Fin 2 → Nat :=
  let c0_i32_526 : BitVec 32 := 0#32
  let c1_i32_528 : BitVec 32 := 1#32
  let arg18 : BitVec 32 := Scf.iv c0_i32_526 c1_i32_528 k0_t2
  let c128_i32 : BitVec 32 := 128#32
  let v1047 : BitVec 32 := Scalar.muli arg18 c128_i32
  let v1048 : Index := Scalar.indexCast v1047
  let c0_817 : Index := 0#32
  ![v1048.toNat, 0]
def k0_dev5 (d0 : Dev nD) : Nat :=
  let c0_i32_553 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_552 : BitVec 32 := 1#32
  let v651 : BitVec 32 := Scalar.muli v4 c1_i32_552
  let v652 : BitVec 32 := Scalar.addi c0_i32_553 v651
  v652.toNat
def k0_off12 (d0 : Dev nD) (c0_i32_559 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_558 : BitVec 32 := 1#32
  let v661 : BitVec 32 := Scalar.subi v2 c1_i32_558
  let v662 : BitVec 32 := Scalar.subi v661 c0_i32_559
  let c8_i32_560 : BitVec 32 := 8#32
  let v663 : BitVec 32 := Scalar.addi v662 c8_i32_560
  let c4_i32_561 : BitVec 32 := 4#32
  let v664 : BitVec 32 := Scalar.remsi v663 c4_i32_561
  let c0_i32_569 : BitVec 32 := 0#32
  let c0_i32_570 : BitVec 32 := 0#32
  ![v664.toNat, 0, 0]
def k0_dev6 (d0 : Dev nD) : Nat :=
  let c0_i32_566 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_565 : BitVec 32 := 1#32
  let v665 : BitVec 32 := Scalar.muli v4 c1_i32_565
  let v666 : BitVec 32 := Scalar.addi c0_i32_566 v665
  v666.toNat
@[reducible] def k0_t3_loop : Scf.Loop 32 :=
  let c0_i32_622 : BitVec 32 := 0#32
  let c8_i32_623 : BitVec 32 := 8#32
  let v781 : BitVec 32 := Scalar.addi c0_i32_622 c8_i32_623
  let c1_i32_624 : BitVec 32 := 1#32
  ⟨c0_i32_622, v781, c1_i32_624⟩
def k0_off13 (k0_t3 : Fin k0_t3_loop.trips) : Fin 3 → Nat :=
  let c0_i32_622 : BitVec 32 := 0#32
  let c1_i32_624 : BitVec 32 := 1#32
  let arg18 : BitVec 32 := Scf.iv c0_i32_622 c1_i32_624 k0_t3
  let v1021 : Index := Scalar.indexCast arg18
  let c0_805 : Index := 0#32
  let c0_806 : Index := 0#32
  ![v1021.toNat, 0, 0]
def k0_off14 (k0_t3 : Fin k0_t3_loop.trips) : Fin 3 → Nat :=
  let c0_i32_622 : BitVec 32 := 0#32
  let c1_i32_624 : BitVec 32 := 1#32
  let arg18 : BitVec 32 := Scf.iv c0_i32_622 c1_i32_624 k0_t3
  let v1024 : Index := Scalar.indexCast arg18
  let c0_807 : Index := 0#32
  let c0_808 : Index := 0#32
  ![v1024.toNat, 0, 0]
def k0_off15 (k0_t3 : Fin k0_t3_loop.trips) : Fin 2 → Nat :=
  let c0_i32_622 : BitVec 32 := 0#32
  let c1_i32_624 : BitVec 32 := 1#32
  let arg18 : BitVec 32 := Scf.iv c0_i32_622 c1_i32_624 k0_t3
  let c128_i32 : BitVec 32 := 128#32
  let v1047 : BitVec 32 := Scalar.muli arg18 c128_i32
  let v1048 : Index := Scalar.indexCast v1047
  let c0_817 : Index := 0#32
  ![v1048.toNat, 0]
def k0_dev7 (d0 : Dev nD) : Nat :=
  let c0_i32_678 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_677 : BitVec 32 := 1#32
  let v833 : BitVec 32 := Scalar.muli v4 c1_i32_677
  let v834 : BitVec 32 := Scalar.addi c0_i32_678 v833
  v834.toNat
@[reducible] def k0_t4_loop : Scf.Loop 32 :=
  let c0_i32_734 : BitVec 32 := 0#32
  let c8_i32_735 : BitVec 32 := 8#32
  let v949 : BitVec 32 := Scalar.addi c0_i32_734 c8_i32_735
  let c1_i32_736 : BitVec 32 := 1#32
  ⟨c0_i32_734, v949, c1_i32_736⟩
def k0_off16 (k0_t4 : Fin k0_t4_loop.trips) : Fin 3 → Nat :=
  let c0_i32_734 : BitVec 32 := 0#32
  let c1_i32_736 : BitVec 32 := 1#32
  let arg18 : BitVec 32 := Scf.iv c0_i32_734 c1_i32_736 k0_t4
  let v1021 : Index := Scalar.indexCast arg18
  let c0_805 : Index := 0#32
  let c0_806 : Index := 0#32
  ![v1021.toNat, 0, 0]
def k0_off17 (k0_t4 : Fin k0_t4_loop.trips) : Fin 3 → Nat :=
  let c0_i32_734 : BitVec 32 := 0#32
  let c1_i32_736 : BitVec 32 := 1#32
  let arg18 : BitVec 32 := Scf.iv c0_i32_734 c1_i32_736 k0_t4
  let v1024 : Index := Scalar.indexCast arg18
  let c0_807 : Index := 0#32
  let c0_808 : Index := 0#32
  ![v1024.toNat, 0, 0]
def k0_off18 (k0_t4 : Fin k0_t4_loop.trips) : Fin 2 → Nat :=
  let c0_i32_734 : BitVec 32 := 0#32
  let c1_i32_736 : BitVec 32 := 1#32
  let arg18 : BitVec 32 := Scf.iv c0_i32_734 c1_i32_736 k0_t4
  let c128_i32 : BitVec 32 := 128#32
  let v1047 : BitVec 32 := Scalar.muli arg18 c128_i32
  let v1048 : Index := Scalar.indexCast v1047
  let c0_817 : Index := 0#32
  ![v1048.toNat, 0]
def k0_dev8 (d0 : Dev nD) : Nat :=
  let c0_i32_775 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_774 : BitVec 32 := 1#32
  let v987 : BitVec 32 := Scalar.muli v4 c1_i32_774
  let v988 : BitVec 32 := Scalar.addi c0_i32_775 v987
  v988.toNat
abbrev stage0_0 : Fin 1 → Memref sig .tc .vmem S1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x1024x4096 : Shape := ⟨3, ![1, 1024, 4096]⟩
abbrev S1x1024x32x128 : Shape := ⟨4, ![1, 1024, 32, 128]⟩
abbrev S1024 : Shape := ⟨1, ![1024]⟩
abbrev S_ : Shape := ⟨0, ![]⟩
abbrev S1024x1 : Shape := ⟨2, ![1024, 1]⟩
abbrev S4096 : Shape := ⟨1, ![4096]⟩
abbrev S1x4096 : Shape := ⟨2, ![1, 4096]⟩
abbrev S1x32x1024x4096 : Shape := ⟨4, ![1, 32, 1024, 4096]⟩
abbrev S1x1x1024x4096 : Shape := ⟨4, ![1, 1, 1024, 4096]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 124
  | .vmem => 0
  | .smem => 0
  | _ => 0

abbrev bufTy : (tb : Table) → Fin (tcTables nBuf tb) → BufTy
  | .hbm, ⟨0, _⟩ => ⟨S1x1024x1024, .bf16⟩
  | .hbm, ⟨1, _⟩ => ⟨S1024x4096, .bf16⟩
  | .hbm, ⟨2, _⟩ => ⟨S1x4096x32x128, .f32⟩
  | .hbm, ⟨3, _⟩ => ⟨S1x4096x32x128, .f32⟩
  | .hbm, ⟨4, _⟩ => ⟨S4096x1024, .bf16⟩
  | .hbm, ⟨5, _⟩ => ⟨S1x1024x4096, .f32⟩
  | .hbm, ⟨6, _⟩ => ⟨S1x1024x4096, .bf16⟩
  | .hbm, ⟨7, _⟩ => ⟨S1x1024x32x128, .bf16⟩
  | .hbm, ⟨8, _⟩ => ⟨S1024, .i32⟩
  | .hbm, ⟨9, _⟩ => ⟨S_, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S1024x1, .i32⟩
  | .hbm, ⟨28, _⟩ => ⟨S4096, .i32⟩
  | .hbm, ⟨29, _⟩ => ⟨S_, .i32⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S1x4096, .i32⟩
  | .hbm, ⟨48, _⟩ => ⟨S1024x4096, .i32⟩
  | .hbm, ⟨49, _⟩ => ⟨S1024x4096, .i32⟩
  | .hbm, ⟨50, _⟩ => ⟨S1024x4096, .i1⟩
  | .hbm, ⟨51, _⟩ => ⟨S_, .i32⟩
  | .hbm, ⟨52, _⟩ => ⟨S1x4096, .i32⟩
  | .hbm, ⟨53, _⟩ => ⟨S1x4096, .i1⟩
  | .hbm, ⟨54, _⟩ => ⟨S1024x4096, .i1⟩
  | .hbm, ⟨55, _⟩ => ⟨S1024x4096, .i1⟩
  | .hbm, ⟨56, _⟩ => ⟨S1024x4096, .i32⟩
  | .hbm, ⟨57, _⟩ => ⟨S1024x4096, .i32⟩
  | .hbm, ⟨58, _⟩ => ⟨S1024x4096, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S1024x4096, .i32⟩
  | .hbm, ⟨66, _⟩ => ⟨S1024x4096, .i32⟩
  | .hbm, ⟨67, _⟩ => ⟨S_, .i32⟩
  | .hbm, ⟨68, _⟩ => ⟨S1024x4096, .i32⟩
  | .hbm, ⟨69, _⟩ => ⟨S1024x4096, .i1⟩
  | .hbm, ⟨70, _⟩ => ⟨S_, .i32⟩
  | .hbm, ⟨71, _⟩ => ⟨S1024x4096, .i32⟩
  | .hbm, ⟨72, _⟩ => ⟨S1024x4096, .i1⟩
  | .hbm, ⟨73, _⟩ => ⟨S_, .i32⟩
  | .hbm, ⟨74, _⟩ => ⟨S_, .i1⟩
  | .hbm, ⟨75, _⟩ => ⟨S1024x4096, .i1⟩
  | .hbm, ⟨76, _⟩ => ⟨S1024x4096, .i1⟩
  | .hbm, ⟨77, _⟩ => ⟨S1024x4096, .i1⟩
  | .hbm, ⟨78, _⟩ => ⟨S1024x4096, .i32⟩
  | .hbm, ⟨79, _⟩ => ⟨S1024x4096, .i32⟩
  | .hbm, ⟨80, _⟩ => ⟨S1024x4096, .i32⟩
  | .hbm, ⟨81, _⟩ => ⟨S_, .i32⟩
  | .hbm, ⟨82, _⟩ => ⟨S1024x4096, .i32⟩
  | .hbm, ⟨83, _⟩ => ⟨S1024x4096, .i1⟩
  | .hbm, ⟨84, _⟩ => ⟨S1024x4096, .i1⟩
  | .hbm, ⟨85, _⟩ => ⟨S1x32x1024x4096, .f32⟩
  | .hbm, ⟨86, _⟩ => ⟨S_, .f32⟩
  | .hbm, ⟨87, _⟩ => ⟨S1x32x1024x4096, .f32⟩
  | .hbm, ⟨88, _⟩ => ⟨S1x32x1024x4096, .f32⟩
  | .hbm, ⟨89, _⟩ => ⟨S1x1x1024x4096, .i1⟩
  | .hbm, ⟨90, _⟩ => ⟨S_, .f32⟩
  | .hbm, ⟨91, _⟩ => ⟨S_, .f32⟩
  | .hbm, ⟨92, _⟩ => ⟨S1x32x1024x4096, .i1⟩
  | .hbm, ⟨93, _⟩ => ⟨S1x32x1024x4096, .f32⟩
  | .hbm, ⟨94, _⟩ => ⟨S1x32x1024x4096, .f32⟩
  | .hbm, ⟨95, _⟩ => ⟨S_, .f32⟩
  | .hbm, ⟨96, _⟩ => ⟨S1x32x1024, .f32⟩
  | .hbm, ⟨97, _⟩ => ⟨S1x32x1024x1, .f32⟩
  | .hbm, ⟨98, _⟩ => ⟨S1x32x1024x4096, .f32⟩
  | .hbm, ⟨99, _⟩ => ⟨S1x32x1024x4096, .f32⟩
  | .hbm, ⟨100, _⟩ => ⟨S1x32x1024x4096, .f32⟩
  | .hbm, ⟨101, _⟩ => ⟨S_, .i1⟩
  | .hbm, ⟨102, _⟩ => ⟨S1024, .i1⟩
  | .hbm, ⟨103, _⟩ => ⟨S1x1x1024x1, .i1⟩
  | .hbm, ⟨104, _⟩ => ⟨S_, .f32⟩
  | .hbm, ⟨105, _⟩ => ⟨S1x32x1024, .f32⟩
  | .hbm, ⟨106, _⟩ => ⟨S1x32x1024x1, .f32⟩
  | .hbm, ⟨107, _⟩ => ⟨S_, .f32⟩
  | .hbm, ⟨108, _⟩ => ⟨S_, .f32⟩
  | .hbm, ⟨109, _⟩ => ⟨S1x32x1024x1, .i1⟩
  | .hbm, ⟨110, _⟩ => ⟨S1x32x1024x1, .f32⟩
  | .hbm, ⟨111, _⟩ => ⟨S1x32x1024x1, .f32⟩
  | .hbm, ⟨112, _⟩ => ⟨S1x32x1024x4096, .f32⟩
  | .hbm, ⟨113, _⟩ => ⟨S1x32x1024x4096, .f32⟩
  | .hbm, ⟨114, _⟩ => ⟨S1x1x1024x1, .i1⟩
  | .hbm, ⟨115, _⟩ => ⟨S_, .f32⟩
  | .hbm, ⟨116, _⟩ => ⟨S_, .f32⟩
  | .hbm, ⟨117, _⟩ => ⟨S1x32x1024x4096, .i1⟩
  | .hbm, ⟨118, _⟩ => ⟨S1x32x1024x4096, .f32⟩
  | .hbm, ⟨119, _⟩ => ⟨S1x32x1024x4096, .f32⟩
  | .hbm, ⟨120, _⟩ => ⟨S1x32x128x1024, .f32⟩
  | .hbm, ⟨121, _⟩ => ⟨S1x1024x32x128, .f32⟩
  | .hbm, ⟨122, _⟩ => ⟨S1x1024x4096, .f32⟩
  | .hbm, ⟨123, _⟩ => ⟨S1x1024x1024, .f32⟩
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_cst : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_cst_4 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v27 : Ref sig .tc := ⟨.hbm, 94, rfl⟩
abbrev main_cst_5 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_c_6 : Ref sig .tc := ⟨.hbm, 101, rfl⟩
abbrev main_v33 : Ref sig .tc := ⟨.hbm, 102, rfl⟩
abbrev main_v34 : Ref sig .tc := ⟨.hbm, 103, rfl⟩
abbrev main_cst_7 : Ref sig .tc := ⟨.hbm, 104, rfl⟩
abbrev main_v35 : Ref sig .tc := ⟨.hbm, 105, rfl⟩
abbrev main_v36 : Ref sig .tc := ⟨.hbm, 106, rfl⟩
abbrev main_cst_8 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_cst_9 : Ref sig .tc := ⟨.hbm, 115, rfl⟩
abbrev main_call5_v0 : Ref sig .tc := ⟨.hbm, 116, rfl⟩
abbrev main_call5_v1 : Ref sig .tc := ⟨.hbm, 117, rfl⟩
abbrev main_call5_v2 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩

abbrev nD : Nat := 1
abbrev τ : Topo := Topo.v7x

variable {F : FTy → Type} [FloatOps F]
-- ==== Proof.RunKernelIdeal.Ring.lean ====
/-
# The ring: slots, semaphores, schedule and levels

Four devices stand in a ring. Device `c` sends to `nxt c` and receives from `prv c`. The protocol:

* BARRIER. Each device adds one unit to both neighbours' barrier semaphore and waits for two on its own. The unit that
  `nxt c` adds to `c`'s barrier hands `c` what it will write on `nxt c`: the three slots of `nxt c`'s gather buffer that
  are not `nxt c`'s own, and the three slots of its reduction buffer.
* GATHER, hops `h = 0, 1, 2`. Device `c` copies slot `c - h` of its gather buffer to the same slot on `nxt c`. Half a
  share of the slot is lent to the copy, since the kernel reads the slot meanwhile; the copy's send semaphore returns it.
  The receive semaphore of hop `h` hands `c` its slot `c - 1 - h`, with the block of that device.
* REDUCE, hops `s = 0, 1, 2`. Device `c` copies slot `c - 1 - s` of its partial sums to slot `s` of `nxt c`'s
  reduction buffer. The send semaphore returns the slot, the receive semaphore hands over the received partial sum.

Levels: local copies, staging and send semaphores at 0, barrier at 1, gather hops at 2, 3, 4, reduce hops at 5, 6, 7;
each wait is on a cell below everything its device still owes at that point.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.StableHlo.CollectiveRules
public import Idealize.ShloMosaic.Lib.Tactic

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy (duties `Unit`), the ring's (duties `Bool`) and the counters of local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's copy of the rounds library: the left half of the right factor. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
omit [FloatOps F] in
instance ER_landsIn : (ER : Emb UB 𝕄).LandsIn (upEmb : UEmb _ 𝕄) := by unfold ER; infer_instance

/-! ## The ring of devices -/

set_option backward.proofsInPublic true in
/-- The next device of the ring. -/
def nxt (c : Dev nD) : Dev nD := ⟨(c.val + 1) % 4, Nat.mod_lt _ (by decide)⟩
set_option backward.proofsInPublic true in
/-- The device before. -/
def prv (c : Dev nD) : Dev nD := ⟨(c.val + 3) % 4, Nat.mod_lt _ (by decide)⟩
set_option backward.proofsInPublic true in
/-- The device `k` places back (`k ≤ 8`). -/
def bk (k : ℕ) (c : Dev nD) : Dev nD := ⟨(c.val + (8 - k)) % 4, Nat.mod_lt _ (by decide)⟩

theorem prv_nxt (c : Dev nD) : prv (nxt c) = c := by revert c; decide
theorem nxt_prv (c : Dev nD) : nxt (prv c) = c := by revert c; decide
theorem bk_zero (c : Dev nD) : bk 0 c = c := by revert c; decide
theorem bk_nxt (h : Fin 3) (c : Dev nD) : bk (1 + h.val) (nxt c) = bk h.val c := by revert h c; decide

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = nxt c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = nxt c := Fin.ext (k0_dev8_eq c)

/-- The ring as a permutation of the devices. -/
def ring : Dev nD ≃ Dev nD := ⟨nxt, prv, prv_nxt, nxt_prv⟩

/-! ## The slots of the three communication buffers -/

abbrev xM : Memref sig .tc .vmem S4x256x1024 .bf16 := Memref.whole cc0_scratch0
abbrev pM : Memref sig .tc .vmem S4x256x1024 .bf16 := Memref.whole cc0_scratch1
abbrev rM : Memref sig .tc .vmem S3x256x1024 .bf16 := Memref.whole cc0_scratch2

theorem inb4 (k : Fin 4) : ∀ a, (![k.val, 0, 0] : Fin 3 → Nat) a + S1x256x1024.size a ≤ S4x256x1024.size a := by revert k; decide
theorem inb3 (k : Fin 3) : ∀ a, (![k.val, 0, 0] : Fin 3 → Nat) a + S1x256x1024.size a ≤ S3x256x1024.size a := by revert k; decide

abbrev xS (k : Fin 4) : Memref sig .tc .vmem S1x256x1024 .bf16 := xM.slice (Rect.unit (s := S4x256x1024) ![k.val, 0, 0] S1x256x1024.size (inb4 k)) (fun _ => rfl)
abbrev pS (k : Fin 4) : Memref sig .tc .vmem S1x256x1024 .bf16 := pM.slice (Rect.unit (s := S4x256x1024) ![k.val, 0, 0] S1x256x1024.size (inb4 k)) (fun _ => rfl)
abbrev rS (k : Fin 3) : Memref sig .tc .vmem S1x256x1024 .bf16 := rM.slice (Rect.unit (s := S3x256x1024) ![k.val, 0, 0] S1x256x1024.size (inb3 k)) (fun _ => rfl)

/-- Slot `k` of `c`'s gather buffer, at share `q`, holding `w`. -/
def xs (c : Dev nD) (k : Fin 4) (q : PosShare TreeShare) (w : Vec F S1x256x1024 .bf16) : sProp 𝕄 := owns (c : Thread nD τ) (xS k) q w
/-- Slot `k` of `c`'s partial sums, holding `w`. -/
def ps (c : Dev nD) (k : Fin 4) (w : Vec F S1x256x1024 .bf16) : sProp 𝕄 := owns (c : Thread nD τ) (pS k) fullShare w
/-- Slot `k` of `c`'s reduction buffer, holding `w`. -/
def rs (c : Dev nD) (k : Fin 3) (w : Vec F S1x256x1024 .bf16) : sProp 𝕄 := owns (c : Thread nD τ) (rS k) fullShare w

omit [FloatOps F] in
instance xs_storable (c : Dev nD) (k q w) : BI.Storable (upEmb : UEmb _ 𝕄) (xs (F := F) c k q w) := by unfold xs; infer_instance
omit [FloatOps F] in
instance ps_storable (c : Dev nD) (k w) : BI.Storable (upEmb : UEmb _ 𝕄) (ps (F := F) c k w) := by unfold ps; infer_instance
omit [FloatOps F] in
instance rs_storable (c : Dev nD) (k w) : BI.Storable (upEmb : UEmb _ 𝕄) (rs (F := F) c k w) := by unfold rs; infer_instance

/-! ## The semaphores -/

/-- The runtime's barrier semaphore. -/
abbrev barS : Sem sig := (SemArray.scalar (sig.barrier 0 rfl) : Sems sig S_).sem

set_option backward.proofsInPublic true in
/-- DMA semaphore number `n` of the launch. -/
abbrev dm (n : Fin 20) : DmaSem sig := ⟨n.val, n.isLt⟩

abbrev barCell (c : Dev nD) : GSem nD τ sig := ((c : Thread nD τ), .reg barS)
abbrev dCell (c : Dev nD) (n : Fin 20) : GSem nD τ sig := ((c : Thread nD τ), .dma (dm n))

/-- The ring's cells on a device: the barrier, then the twelve send and receive semaphores (DMA semaphores 8 to 19). -/
def csem (i : Fin 13) : SemLoc sig := if h : i.val = 0 then .reg barS else .dma (dm ⟨7 + i.val, by omega⟩)
abbrev kcell (ck : Dev nD × Fin 13) : GSem nD τ sig := ((ck.1 : Thread nD τ), csem ck.2)

/-- The credit of one block of 256 × 1024 bf16 values. -/
abbrev N : ℕ := (xS 0).view.dmaCredit
theorem N_pos : 0 < N := View.dmaCredit_pos _ (by decide)

/-! ## The schedule -/

section Schedule

variable (X : Dev nD → Vec F S1x256x1024 .bf16) (RS : Fin 3 → Dev nD → Vec F S1x256x1024 .bf16)

/-- What `nxt c`'s unit on `c`'s barrier hands `c`: the slots of `nxt c` that `c` writes. -/
def barPay (c : Dev nD) : sProp 𝕄 :=
  iprop((∃ w, xs (nxt c) (bk 0 c) fullShare w) ∗ (∃ w, xs (nxt c) (bk 1 c) fullShare w) ∗ (∃ w, xs (nxt c) (bk 2 c) fullShare w)
    ∗ (∃ w, rs (nxt c) 0 w) ∗ (∃ w, rs (nxt c) 1 w) ∗ (∃ w, rs (nxt c) 2 w))

/-- What the send and receive semaphores hand `c`. -/
def dmaPay (c : Dev nD) (n : ℕ) : sProp 𝕄 :=
  if n = 8 then xs c (bk 0 c) fullShare.left (X (bk 0 c))
  else if n = 9 then xs c (bk 1 c) fullShare.left (X (bk 1 c))
  else if n = 10 then xs c (bk 2 c) fullShare.left (X (bk 2 c))
  else if n = 11 then xs c (bk 1 c) fullShare (X (bk 1 c))
  else if n = 12 then xs c (bk 2 c) fullShare (X (bk 2 c))
  else if n = 13 then xs c (bk 3 c) fullShare (X (bk 3 c))
  else if n = 14 then iprop(∃ w, ps c (bk 1 c) w)
  else if n = 15 then iprop(∃ w, ps c (bk 2 c) w)
  else if n = 16 then iprop(∃ w, ps c (bk 3 c) w)
  else if n = 17 then rs c 0 (RS 0 c)
  else if n = 18 then rs c 1 (RS 1 c)
  else if n = 19 then rs c 2 (RS 2 c)
  else iprop(emp)

/-- One round, round 0: a barrier cell has two duties of one unit (`false` from `prv`, `true` from `nxt`); a send or
    receive cell one duty of a block's credit. -/
def ringRd : Rounds.Schedule (GSem nD τ sig) Bool 𝕄 where
  duties g r := if r = 0 ∧ g.1.2 = .tc then
      (match g.2 with | .reg s => if s = barS then Finset.univ else ∅ | .dma q => if 8 ≤ q.val then {false} else ∅) else ∅
  unitless _ := False
  amount g _ _ := match g.2 with | .reg _ => 1 | .dma _ => N
  payload g _ d := match g.2 with | .reg _ => if d then barPay g.1.1 else iprop(emp) | .dma q => dmaPay X RS g.1.1 q.val
  amount_pos g _ _ _ := by
    rcases g with ⟨t, s | q⟩
    · exact Nat.one_pos
    · exact N_pos

omit [FloatOps F] in
/-- A choice between storable propositions is storable. -/
theorem ite_storable (p : Prop) [Decidable p] {A B : sProp 𝕄} (hA : BI.Storable (upEmb : UEmb _ 𝕄) A) (hB : BI.Storable (upEmb : UEmb _ 𝕄) B) :
    BI.Storable (upEmb : UEmb _ 𝕄) (if p then A else B) := by
  by_cases h : p
  · rw [if_pos h]; exact hA
  · rw [if_neg h]; exact hB

instance ringRd_payload_storable (g : GSem nD τ sig) (r : ℕ) (d : Bool) :
    BI.Storable (upEmb : UEmb _ 𝕄) ((ringRd (F := F) X RS).payload g r d) := by
  rcases g with ⟨t, s | q⟩
  · show BI.Storable upEmb (if d then barPay t.1 else iprop(emp))
    unfold barPay
    split <;> infer_instance
  · show BI.Storable upEmb (dmaPay X RS t.1 q.val)
    unfold dmaPay
    repeat' (first | infer_instance | refine ite_storable _ ?_ ?_)

section Sched
variable (c : Dev nD)

theorem duties_bar : (ringRd (F := F) X RS).duties (barCell c) 0 = Finset.univ := by
  dsimp only [ringRd]; rw [if_pos ⟨rfl, rfl⟩]; exact if_pos rfl
theorem duties_dma (n : Fin 20) (hn : 8 ≤ n.val) : (ringRd (F := F) X RS).duties (dCell c n) 0 = {false} := by
  dsimp only [ringRd]; rw [if_pos ⟨rfl, rfl⟩]; exact if_pos hn
theorem duties_later (g : GSem nD τ sig) : ∀ r, 1 ≤ r → (ringRd (F := F) X RS).duties g r = ∅ :=
  fun r hr => by dsimp only [ringRd]; rw [if_neg fun h => by omega]

theorem amount_bar (d : Bool) : (ringRd (F := F) X RS).amount (barCell c) 0 d = 1 := rfl
theorem amount_dma (n : Fin 20) (d : Bool) : (ringRd (F := F) X RS).amount (dCell c n) 0 d = N := rfl

theorem expect_bar : (ringRd (F := F) X RS).expect (barCell c) 0 = 2 := by
  unfold Schedule.expect Schedule.amountOf
  rw [duties_bar, Finset.sum_congr rfl fun d _ => amount_bar X RS c d, Finset.sum_const, Finset.card_univ, Fintype.card_bool, smul_eq_mul]
theorem expect_dma (n : Fin 20) (hn : 8 ≤ n.val) : (ringRd (F := F) X RS).expect (dCell c n) 0 = N := by
  unfold Schedule.expect Schedule.amountOf; rw [duties_dma X RS c n hn, Finset.sum_singleton, amount_dma]

theorem payload_bar_true : (ringRd (F := F) X RS).payload (barCell c) 0 true = barPay c := rfl
theorem payload_bar_false : (ringRd (F := F) X RS).payload (barCell c) 0 false = iprop(emp) := rfl
theorem payload_dma (n : Fin 20) (d : Bool) : (ringRd (F := F) X RS).payload (dCell c n) 0 d = dmaPay X RS c n.val := rfl

/-- The whole round of the barrier cell: nothing and `nxt c`'s payload. -/
theorem rest_bar : bigSep ((ringRd (F := F) X RS).duties (barCell c) 0 \ ∅) (fun d => (ringRd (F := F) X RS).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
/-- The whole round of a send or receive cell: its one payload. -/
theorem rest_dma (n : Fin 20) (hn : 8 ≤ n.val) :
    bigSep ((ringRd (F := F) X RS).duties (dCell c n) 0 \ ∅) (fun d => (ringRd (F := F) X RS).payload (dCell c n) 0 d) = dmaPay X RS c n.val := by
  rw [Finset.sdiff_empty, duties_dma X RS c n hn, bigSep_singleton, payload_dma]

end Sched
end Schedule

/-! ## What each device owes; the levels -/

set_option backward.proofsInPublic true in
/-- The cells device `c` pays, last to first: the reduce hops 2, 1, 0 and the gather hops 2, 1, 0 on `nxt c`, then the barriers of `nxt c` and `prv c`. -/
def target (c : Dev nD) : ℕ → GSem nD τ sig
  | 0 => dCell (nxt c) 19
  | 1 => dCell (nxt c) 18
  | 2 => dCell (nxt c) 17
  | 3 => dCell (nxt c) 13
  | 4 => dCell (nxt c) 12
  | 5 => dCell (nxt c) 11
  | 6 => barCell (nxt c)
  | _ => barCell (prv c)

/-- What it pays to the `j`-th of them. -/
def pays (j : ℕ) : ℕ := if j < 6 then N else 1

/-- What `c` owes while the first `k` of its targets are still unpaid. -/
def owe (c : Dev nD) : ℕ → CellTallies nD τ sig Unit
  | 0 => 0
  | k + 1 => owe c k + tallyAt (target c k) () (pays k)

def L (g : GSem nD τ sig) : Finset Unit := if g.1.2 = .tc then {()} else ∅
/-- The level of a DMA semaphore. -/
def lvD (n : ℕ) : ℕ := if 17 ≤ n then n - 12 else if 11 ≤ n ∧ n ≤ 13 then n - 9 else 0
def lv (g : GSem nD τ sig) (_ : Unit) : ℕ := match g.2 with | .reg _ => 1 | .dma q => lvD q.val

theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {k : ℕ} {g : GSem nD τ sig} {u : Unit} (h : 0 < owe c k g u) : ∃ j < k, g = target c j := by
  induction k with
  | zero => exact absurd h (Nat.lt_irrefl 0)
  | succ k ih =>
    unfold owe at h
    rw [Pi.add_apply, Finsupp.add_apply, tallyAt_apply] at h
    by_cases hg : g = target c k ∧ u = ()
    · exact ⟨k, Nat.lt_succ_self k, hg.1⟩
    · rw [if_neg hg] at h
      obtain ⟨j, hj, e⟩ := ih h
      exact ⟨j, Nat.lt_succ_of_lt hj, e⟩

theorem target_tc (c : Dev nD) (j : ℕ) : (target c j).1.2 = .tc := by unfold target; split <;> rfl

/-- The level of the `j`-th target. -/
def lvT (j : ℕ) : ℕ := if j < 6 then 7 - j else 1
theorem lv_target (c : Dev nD) (j : ℕ) (u : Unit) : lv (target c j) u = lvT j := by
  rcases j with _ | _ | _ | _ | _ | _ | _ | j
  all_goals first | rfl | (unfold lvT; rw [if_neg (by omega)]; rfl)

/-- A device may wait on a cell of a level below every target it has not paid. -/
theorem mayWait (c : Dev nD) (sm : SemLoc sig) (k : ℕ) (h : ∀ j < k, lv ((c : Thread nD τ), sm) () < lvT j) :
    (levAts L lv : sProp 𝕄) ⊢ MayWait (c : Thread nD τ) sm () (owe c k) :=
  MayOwe.of_cut (L := L) (lev := lv) (lv ((c : Thread nD τ), sm) ()) (fun p hp => by rw [Finset.mem_singleton.mp hp, L_tc]; exact Finset.mem_singleton_self _)
    (fun g u hg => by obtain ⟨j, _, rfl⟩ := owe_pos hg; unfold L; rw [if_pos (target_tc c j)]; exact Finset.mem_singleton_self _)
    (fun p hp => by rw [Finset.mem_singleton.mp hp])
    (fun g u hg => by obtain ⟨j, hj, rfl⟩ := owe_pos hg; rw [lv_target]; exact h j hj)

end Cert.RunKernelIdeal

end
-- ==== Proof.RunKernelIdeal.Slots.lean ====
/-
# Loads, stores and copies of slots

What the kernel does with one slot of the gather buffer, of the partial sums or of the reduction buffer: read it whole,
overwrite it whole, copy it to a slot of the next device, wait for a copy. A program names a slot by an offset computed
from the device; the lemmas take the equation of that offset with the slot's number.
-/
module

public import proofs.«01_k».proof.Proof.RunKernelIdeal.Ring

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a piece of the kernel's body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Reading a slot of a buffer of `n` slots. -/
theorem wp_load_slot (c : Dev nD) {n : ℕ} (M : Memref sig .tc .vmem ⟨3, ![n, 256, 1024]⟩ .bf16) {off off' : Fin 3 → ℕ} (h : off = off')
    {inb : ∀ a, off a + S1x256x1024.size a ≤ (⟨3, ![n, 256, 1024]⟩ : Shape).size a} {inb' : ∀ a, off' a + S1x256x1024.size a ≤ (⟨3, ![n, 256, 1024]⟩ : Shape).size a}
    {hl : M.view.LoadsAt (Rect.unit (s := ⟨3, ![n, 256, 1024]⟩) off S1x256x1024.size inb).toLoadRect}
    {q : PosShare TreeShare} {w : Vec F S1x256x1024 .bf16} {α : Type} {k : Vec F S1x256x1024 .bf16 → Prog (TpuEff nD τ sig (Elt F) Λ₀ .tc) α} {Q : α → sProp 𝕄} :
    (owns (c : Thread nD τ) (M.slice (Rect.unit (s := ⟨3, ![n, 256, 1024]⟩) off' S1x256x1024.size inb') (fun _ => rfl)) q w : sProp 𝕄)
      ⊢ iprop((owns (c : Thread nD τ) (M.slice (Rect.unit (s := ⟨3, ![n, 256, 1024]⟩) off' S1x256x1024.size inb') (fun _ => rfl)) q w -∗ WP c (k w) Q)
        -∗ WP c (.op (.load M (Rect.unit (s := ⟨3, ![n, 256, 1024]⟩) off S1x256x1024.size inb).toLoadRect hl) k) Q) := by
  subst h
  unfold owns
  iintro ⟨%f, %hf, H⟩ Hk
  iapply (wp_load_rect 𝒱₀ (c : Thread nD τ) none Set.univ (m := M) (r := Rect.unit (s := ⟨3, ![n, 256, 1024]⟩) off S1x256x1024.size inb) (Finset.Subset.refl _)) $$ H
  iintro H
  have e : (M.access (Rect.unit (s := ⟨3, ![n, 256, 1024]⟩) off S1x256x1024.size inb)).read (Elt F) f = w := hf
  rw [e]
  iapply Hk
  iexists f
  isplitr
  · ipureintro; exact hf
  iexact H

/-- Overwriting a slot of a buffer of `n` slots. -/
theorem wp_store_slot (c : Dev nD) {n : ℕ} (M : Memref sig .tc .vmem ⟨3, ![n, 256, 1024]⟩ .bf16) {off off' : Fin 3 → ℕ} (h : off = off')
    {inb : ∀ a, off a + S1x256x1024.size a ≤ (⟨3, ![n, 256, 1024]⟩ : Shape).size a} {inb' : ∀ a, off' a + S1x256x1024.size a ≤ (⟨3, ![n, 256, 1024]⟩ : Shape).size a}
    {v w : Vec F S1x256x1024 .bf16}
    {hx : (M.access (Rect.unit (s := ⟨3, ![n, 256, 1024]⟩) off S1x256x1024.size inb)).Stores Finset.univ} {hm}
    {α : Type} {k : PUnit → Prog (TpuEff nD τ sig (Elt F) Λ₀ .tc) α} {Q : α → sProp 𝕄} :
    (owns (c : Thread nD τ) (M.slice (Rect.unit (s := ⟨3, ![n, 256, 1024]⟩) off' S1x256x1024.size inb') (fun _ => rfl)) fullShare v : sProp 𝕄)
      ⊢ iprop((owns (c : Thread nD τ) (M.slice (Rect.unit (s := ⟨3, ![n, 256, 1024]⟩) off' S1x256x1024.size inb') (fun _ => rfl)) fullShare w -∗ WP c (k ⟨⟩) Q)
        -∗ WP c (.op (.store M (Rect.unit (s := ⟨3, ![n, 256, 1024]⟩) off S1x256x1024.size inb) w Finset.univ hx hm) k) Q) := by
  subst h
  unfold owns
  iintro ⟨%f, %hf, H⟩ Hk
  iapply (wp_store 𝒱₀ (c : Thread nD τ) none Set.univ (m := M) (r := Rect.unit (s := ⟨3, ![n, 256, 1024]⟩) off S1x256x1024.size inb) (Mk := Finset.univ)
    (S := (M.access (Rect.unit (s := ⟨3, ![n, 256, 1024]⟩) off S1x256x1024.size inb)).set) (by rw [View.setOn_univ])) $$ H
  iintro H
  iapply Hk
  iexists _
  isplitr [H]
  · ipureintro
    exact View.read_write_univ (v := M.access (Rect.unit (s := ⟨3, ![n, 256, 1024]⟩) off S1x256x1024.size inb)) f w
  iexact H

section Comm

variable (X : Dev nD → Vec F S1x256x1024 .bf16) (RS : Fin 3 → Dev nD → Vec F S1x256x1024 .bf16)

omit [FloatOps F] in
/-- What a copy through two squeezed views leaves, read through the destination unsqueezed: what the source holds. -/
theorem read_copied {κ₁ κ₂ : Kind} {sp₁ sp₂ : Space} {s s' : Shape} {e : EltTy} (v₁ : View sig κ₁ sp₁ s e) (v₂ : View sig κ₂ sp₂ s e) (h : s'.numel = s.numel)
    (f : v₁.ty.Contents (Elt F)) (g : v₂.ty.Contents (Elt F)) :
    v₂.read (Elt F) ((v₂.reshape s' h).write (Elt F) g ((v₁.reshape s' h).read (Elt F) f) Finset.univ) = v₁.read (Elt F) f := by
  rw [View.write_reshape_univ, View.read_write_univ]
  funext x
  show v₁.read (Elt F) f (Shape.reshapeEquiv h ((Shape.reshapeEquiv h).symm x)) = _
  rw [Equiv.apply_symm_apply]

/-- A slot of the gather buffer as the copies name it, without its unit axis. -/
abbrev xqS (k : Fin 4) : Memref sig .tc .vmem S256x1024 .bf16 := (xS k).squeeze S256x1024 squeezes_S1x256x1024_S256x1024

omit [FloatOps F] in
theorem xq_pts (c : Dev nD) (k : Fin 4) (q : PosShare TreeShare) (f : Buf (Elt F) ((xS k).view.loc (c : Thread nD τ))) :
    ((xqS k).view.loc (c : Thread nD τ) ↦[(xqS k).view.set]{q} f : sProp 𝕄) = ((xS k).view.loc (c : Thread nD τ) ↦[(xS k).view.set]{q} f) :=
  congrArg (fun S => ((xS k).view.loc (c : Thread nD τ) ↦[S]{q} f : sProp 𝕄)) (View.set_reshape _ _)
omit [FloatOps F] in
theorem xq_owns (c : Dev nD) (k : Fin 4) (q : PosShare TreeShare) (f : Buf (Elt F) ((xS k).view.loc (c : Thread nD τ))) (w : Vec F S1x256x1024 .bf16)
    (h : (xS k).view.read (Elt F) f = w) :
    ((xqS k).view.loc (c : Thread nD τ) ↦[(xqS k).view.set]{q} f : sProp 𝕄) ⊢ xs c k q w := by
  rw [xq_pts]
  unfold xs owns; iintro H; iexists f; isplitr; · (ipureintro; exact h)
  iexact H
omit [FloatOps F] in
theorem xq_landed (c : Dev nD) (k : Fin 4) (f : (xS k).view.ty.Contents (Elt F)) (g : Buf (Elt F) ((xS k).view.loc (c : Thread nD τ))) (w : Vec F S1x256x1024 .bf16)
    (h : (xS k).view.read (Elt F) f = w) :
    ((xqS k).view.loc (c : Thread nD τ) ↦[(xqS k).view.set]{fullShare} ((xqS k).view.write (Elt F) g ((xqS k).view.read (Elt F) f) Finset.univ) : sProp 𝕄) ⊢ xs c k fullShare w :=
  xq_owns c k fullShare _ w ((read_copied (xS k).view (xS k).view squeezes_S1x256x1024_S256x1024.numel_eq f g).trans h)

theorem pay_ag_send (c : Dev nD) (h : Fin 3) (iS : Fin 20) (hiS : iS.val = 8 + h.val) :
    (ringRd X RS).payload (dCell c iS) 0 false = xs c (bk h.val c) fullShare.left (X (bk h.val c)) := by
  rw [payload_dma, hiS]; fin_cases h <;> rfl
theorem pay_ag_recv (c : Dev nD) (h : Fin 3) (iR : Fin 20) (hiR : iR.val = 11 + h.val) :
    (ringRd X RS).payload (dCell (nxt c) iR) 0 false = xs (nxt c) (bk h.val c) fullShare (X (bk h.val c)) := by
  rw [payload_dma, hiR, ← bk_nxt]; fin_cases h <;> rfl

/-- One hop of the gather: device `c` copies slot `c - h` of its gather buffer to the same slot of `nxt c`, lending half a
    share of its own; the receive duty of `nxt c` is paid with the block. -/
theorem wp_send_ag (K : Dev nD × Fin 13 → ℕ) (c n : Dev nD) (hn : n = nxt c) (h : Fin 3) (iS iR : Fin 20) (jS jR : Fin 13)
    (hiS : iS.val = 8 + h.val) (hiR : iR.val = 11 + h.val)
    {off : Fin 3 → ℕ} (hoff : off = ![(bk h.val c).val, 0, 0]) {inb : ∀ a, off a + S1x256x1024.size a ≤ S4x256x1024.size a}
    {sS sR : DmaSem sig} (hS : sS = dm iS) (hR : sR = dm iR)
    {hsc} {hsrc} {hdst} {hsem} {α : Type} {Q : α → sProp 𝕄} {k : PUnit → Prog (TpuEff nD τ sig (Elt F) Λ₀ .tc) α}
    (O : CellTallies nD τ sig Unit) (W : Waits sig Unit) :
    iprop(cellInv ER (ringRd X RS) (K (c, jS)) (dCell c iS) ∗ cellInv ER (ringRd X RS) (K (nxt c, jR)) (dCell (nxt c) iR)
        ∗ xs c (bk h.val c) fullShare.left (X (bk h.val c)) ∗ (∃ w, xs (nxt c) (bk h.val c) fullShare w)
        ∗ owes (c : Thread nD τ) (O + tallyAt (dCell (nxt c) iR) () N) W
        ∗ dutyTok ER (dCell c iS) 0 false ∗ reached ER (dCell c iS) 0
        ∗ dutyTok ER (dCell (nxt c) iR) 0 false ∗ reached ER (dCell (nxt c) iR) 0)
      ⊢ iprop(((cred (tallyAt (dCell c iS) () N) ∗ owes (c : Thread nD τ) O W) -∗ WP c (k ⟨⟩) Q)
          -∗ WP c (.op (.enqueueDma ((xM.slice (Rect.unit (s := S4x256x1024) off S1x256x1024.size inb) (fun _ => rfl)).squeeze S256x1024 squeezes_S1x256x1024_S256x1024)
              (.remote (Dev.tc n : Thread nD τ) ((xM.slice (Rect.unit (s := S4x256x1024) off S1x256x1024.size inb) (fun _ => rfl)).squeeze S256x1024 squeezes_S1x256x1024_S256x1024) (.dma sS) hsc)
              (.dma sR) hsrc hdst hsem) k) Q) := by
  subst hn hoff hS hR
  unfold xs owns
  iintro ⟨HI1, HI2, ⟨%f, %hf, Hs⟩, ⟨%w, %g, %hg, Hd⟩, HO, Ht1, Hr1, Ht2, Hr2⟩
  ihave Hs := (Entails.of_eq (xq_pts c (bk h.val c) fullShare.left f).symm) $$ Hs
  ihave Hd := (Entails.of_eq (xq_pts (nxt c) (bk h.val c) fullShare g).symm) $$ Hd
  iapply (Rounds.wp_send_pointsTo 𝒱₀ ER (ringRd X RS) (c : Thread nD τ) none (κ₁ := K (c, jS)) (κ₂ := K (nxt c, jR)) (c' := (nxt c : Thread nD τ))
    (src := xqS (bk h.val c)) (dst := xqS (bk h.val c))
    (r₁ := 0) (r₂ := 0) (d₁ := false) (d₂ := false) (q := fullShare.left) (fs := f) (fd := g)
    (by rw [duties_dma X RS c iS (by omega)]; exact Finset.mem_singleton_self _) (by rw [duties_dma X RS (nxt c) iR (by omega)]; exact Finset.mem_singleton_self _)
    () () N rfl (amount_dma X RS c iS false) (amount_dma X RS (nxt c) iR false) O rfl (W := W)
    (by rw [pay_ag_send X RS c h iS hiS]; exact xq_owns c (bk h.val c) fullShare.left f (X (bk h.val c)) hf) (by rw [pay_ag_recv X RS c h iR hiR]; exact xq_landed (nxt c) (bk h.val c) f g (X (bk h.val c)) hf))
    $$ [HI1 HI2 Hs Hd HO Ht1 Hr1 Ht2 Hr2]
  isplitl [HI1]; · iexact HI1
  isplitl [HI2]; · iexact HI2
  isplitl [Hs]; · iexact Hs
  isplitl [Hd]; · iexact Hd
  isplitl [HO]; · iexact HO
  isplitl [Ht1]; · iexact Ht1
  isplitl [Hr1]; · iexact Hr1
  isplitl [Ht2]; · iexact Ht2
  iexact Hr2

end Comm

end Cert.RunKernelIdeal

end
-- ==== Proof.RunKernelIdeal.Pieces.lean ====
/-
# The pieces of the kernel's body over its buffers

The body is printed in 33 pieces, each a function of all memory references and of the values earlier pieces hand on. Here
each piece is applied to the references of the launch: the staged windows, the two arrays left in high memory and the scratch.
-/
module

public import proofs.«01_k».proof.Proof.RunKernelIdeal.Slots

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Piece 1. -/
abbrev P1 : Prog (TpuEff nD τ sig (Elt F) Λ₀ .tc) (Σ' (d0 : Dev nD) (v2 : BitVec 32), BitVec 32) :=
  k0_part1 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11

/-- Piece 2. -/
abbrev P2 (d0 : Dev nD) (v2 : BitVec 32) : Prog (TpuEff nD τ sig (Elt F) Λ₀ .tc) (Σ' (v53 : BitVec 32), BitVec 32) :=
  k0_part2 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2

/-- Piece 3. -/
abbrev P3 (d0 : Dev nD) (v2 : BitVec 32) (v53 : BitVec 32) (c1_i32_49 : BitVec 32) : Prog (TpuEff nD τ sig (Elt F) Λ₀ .tc) (PUnit) :=
  k0_part3 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2 v53 c1_i32_49

/-- Piece 4. -/
abbrev P4 (d0 : Dev nD) (v2 : BitVec 32) : Prog (TpuEff nD τ sig (Elt F) Λ₀ .tc) (PUnit) :=
  k0_part4 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2

/-- Piece 5. -/
abbrev P5 (d0 : Dev nD) (v2 : BitVec 32) : Prog (TpuEff nD τ sig (Elt F) Λ₀ .tc) (PUnit) :=
  k0_part5 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2

/-- Piece 6. -/
abbrev P6 (d0 : Dev nD) (v2 : BitVec 32) : Prog (TpuEff nD τ sig (Elt F) Λ₀ .tc) (FVec F S4096x128 .bf16) :=
  k0_part6 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2

/-- Piece 7. -/
abbrev P7 (d0 : Dev nD) (v2 : BitVec 32) (v159 : FVec F S4096x128 .bf16) : Prog (TpuEff nD τ sig (Elt F) Λ₀ .tc) (PUnit) :=
  k0_part7 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2 v159

/-- Piece 8. -/
abbrev P8 (d0 : Dev nD) (v2 : BitVec 32) : Prog (TpuEff nD τ sig (Elt F) Λ₀ .tc) (PUnit) :=
  k0_part8 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2

/-- Piece 9. -/
abbrev P9 (d0 : Dev nD) (v2 : BitVec 32) : Prog (TpuEff nD τ sig (Elt F) Λ₀ .tc) (PUnit) :=
  k0_part9 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2

/-- Piece 10. -/
abbrev P10 (d0 : Dev nD) (v2 : BitVec 32) : Prog (TpuEff nD τ sig (Elt F) Λ₀ .tc) (PUnit) :=
  k0_part10 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2

/-- Piece 11. -/
abbrev P11 (d0 : Dev nD) (v2 : BitVec 32) : Prog (TpuEff nD τ sig (Elt F) Λ₀ .tc) (PUnit) :=
  k0_part11 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2

/-- Piece 12. -/
abbrev P12 (d0 : Dev nD) (v2 : BitVec 32) : Prog (TpuEff nD τ sig (Elt F) Λ₀ .tc) (PUnit) :=
  k0_part12 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2

/-- Piece 13. -/
abbrev P13 (d0 : Dev nD) (v2 : BitVec 32) : Prog (TpuEff nD τ sig (Elt F) Λ₀ .tc) (FVec F S4096x128 .bf16) :=
  k0_part13 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2

/-- Piece 14. -/
abbrev P14 (d0 : Dev nD) (v2 : BitVec 32) (v349 : FVec F S4096x128 .bf16) : Prog (TpuEff nD τ sig (Elt F) Λ₀ .tc) (FVec F S4096x128 .bf16) :=
  k0_part14 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2 v349

/-- Piece 15. -/
abbrev P15 (d0 : Dev nD) (v2 : BitVec 32) (v377 : FVec F S4096x128 .bf16) : Prog (TpuEff nD τ sig (Elt F) Λ₀ .tc) (Σ' (v383 : BitVec 32) (v390 : FVec F S256x1024 .bf16), FVec F S256x128 .bf16) :=
  k0_part15 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2 v377

/-- Piece 16. -/
abbrev P16 (v390 : FVec F S256x1024 .bf16) (v407 : FVec F S256x128 .bf16) : Prog (TpuEff nD τ sig (Elt F) Λ₀ .tc) (Σ' (v424 : IVec S256x4096 32) (v426 : IVec S256x4096 32) (v445 : IVec S256x4096 1), IVec S256x4096 32) :=
  k0_part16 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 v390 v407

/-- Piece 17. -/
abbrev P17 (v383 : BitVec 32) (v424 : IVec S256x4096 32) (v426 : IVec S256x4096 32) (v445 : IVec S256x4096 1) (v446 : IVec S256x4096 32) : Prog (TpuEff nD τ sig (Elt F) Λ₀ .tc) (FVec F S256x1024 .bf16) :=
  k0_part17 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 v383 v424 v426 v445 v446

/-- Piece 18. -/
abbrev P18 (d0 : Dev nD) (v2 : BitVec 32) (v4 : BitVec 32) (v489 : FVec F S256x1024 .bf16) : Prog (TpuEff nD τ sig (Elt F) Λ₀ .tc) (PUnit) :=
  k0_part18 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2 v4 v489

/-- Piece 19. -/
abbrev P19 (d0 : Dev nD) (v2 : BitVec 32) : Prog (TpuEff nD τ sig (Elt F) Λ₀ .tc) (Σ' (v523 : BitVec 32), FVec F S256x1024 .bf16) :=
  k0_part19 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2

/-- Piece 20. -/
abbrev P20 (v523 : BitVec 32) (v530 : FVec F S256x1024 .bf16) : Prog (TpuEff nD τ sig (Elt F) Λ₀ .tc) (Σ' (v564 : IVec S256x4096 32) (v588 : IVec S256x4096 32), IVec S256x4096 32) :=
  k0_part20 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 v523 v530

/-- Piece 21. -/
abbrev P21 (d0 : Dev nD) (v523 : BitVec 32) (v564 : IVec S256x4096 32) (v588 : IVec S256x4096 32) (v590 : IVec S256x4096 32) : Prog (TpuEff nD τ sig (Elt F) Λ₀ .tc) (FVec F S1x256x1024 .bf16) :=
  k0_part21 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v523 v564 v588 v590

/-- Piece 22. -/
abbrev P22 (d0 : Dev nD) (v2 : BitVec 32) (v4 : BitVec 32) (v633 : FVec F S1x256x1024 .bf16) : Prog (TpuEff nD τ sig (Elt F) Λ₀ .tc) (Σ' (v661 : BitVec 32), BitVec 32) :=
  k0_part22 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2 v4 v633

/-- Piece 23. -/
abbrev P23 (d0 : Dev nD) (v2 : BitVec 32) (v4 : BitVec 32) (v661 : BitVec 32) (c0_i32_559 : BitVec 32) : Prog (TpuEff nD τ sig (Elt F) Λ₀ .tc) (Σ' (v677 : BitVec 32) (v684 : FVec F S256x1024 .bf16), FVec F S256x128 .bf16) :=
  k0_part23 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2 v4 v661 c0_i32_559

/-- Piece 24. -/
abbrev P24 (v684 : FVec F S256x1024 .bf16) (v693 : FVec F S256x128 .bf16) : Prog (TpuEff nD τ sig (Elt F) Λ₀ .tc) (Σ' (v717 : IVec S256x4096 32) (v718 : IVec S256x4096 32) (c64_i32_603 : BitVec 32) (v720 : IVec S256x4096 32) (v723 : IVec S256x4096 32), IVec S256x4096 32) :=
  k0_part24 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 v684 v693

/-- Piece 25. -/
abbrev P25 (v677 : BitVec 32) (v717 : IVec S256x4096 32) (v718 : IVec S256x4096 32) (c64_i32_603 : BitVec 32) (v720 : IVec S256x4096 32) (v723 : IVec S256x4096 32) (v726 : IVec S256x4096 32) : Prog (TpuEff nD τ sig (Elt F) Λ₀ .tc) (Σ' (v745 : IVec S256x4096 32) (v769 : IVec S256x4096 32), IVec S256x4096 1) :=
  k0_part25 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 v677 v717 v718 c64_i32_603 v720 v723 v726

/-- Piece 26. -/
abbrev P26 (d0 : Dev nD) (v4 : BitVec 32) (v677 : BitVec 32) (v745 : IVec S256x4096 32) (v769 : IVec S256x4096 32) (v773 : IVec S256x4096 1) : Prog (TpuEff nD τ sig (Elt F) Λ₀ .tc) (PUnit) :=
  k0_part26 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v4 v677 v745 v769 v773

/-- Piece 27. -/
abbrev P27 (d0 : Dev nD) (v2 : BitVec 32) (v4 : BitVec 32) : Prog (TpuEff nD τ sig (Elt F) Λ₀ .tc) (PUnit) :=
  k0_part27 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2 v4

/-- Piece 28. -/
abbrev P28 (d0 : Dev nD) (v2 : BitVec 32) (v4 : BitVec 32) : Prog (TpuEff nD τ sig (Elt F) Λ₀ .tc) (Σ' (v845 : BitVec 32) (v852 : FVec F S256x1024 .bf16), FVec F S256x128 .bf16) :=
  k0_part28 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2 v4

/-- Piece 29. -/
abbrev P29 (v852 : FVec F S256x1024 .bf16) (v861 : FVec F S256x128 .bf16) : Prog (TpuEff nD τ sig (Elt F) Λ₀ .tc) (Σ' (v885 : IVec S256x4096 32) (v886 : IVec S256x4096 32) (c64_i32_715 : BitVec 32) (v888 : IVec S256x4096 32) (v895 : IVec S256x4096 32) (v897 : BitVec 32), BitVec 32) :=
  k0_part29 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 v852 v861

/-- Piece 30. -/
abbrev P30 (v845 : BitVec 32) (v885 : IVec S256x4096 32) (v886 : IVec S256x4096 32) (c64_i32_715 : BitVec 32) (v888 : IVec S256x4096 32) (v895 : IVec S256x4096 32) (v897 : BitVec 32) (c0_i32_719 : BitVec 32) : Prog (TpuEff nD τ sig (Elt F) Λ₀ .tc) (Σ' (v941 : IVec S256x4096 1) (v944 : IVec S256x4096 32), BitVec 32) :=
  k0_part30 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 v845 v885 v886 c64_i32_715 v888 v895 v897 c0_i32_719

/-- Piece 31. -/
abbrev P31 (d0 : Dev nD) (v2 : BitVec 32) (v4 : BitVec 32) (v845 : BitVec 32) (v941 : IVec S256x4096 1) (v944 : IVec S256x4096 32) (c0_i32_732 : BitVec 32) : Prog (TpuEff nD τ sig (Elt F) Λ₀ .tc) (BitVec 32) :=
  k0_part31 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2 v4 v845 v941 v944 c0_i32_732

/-- Piece 32. -/
abbrev P32 (d0 : Dev nD) (v2 : BitVec 32) (v4 : BitVec 32) (v972 : BitVec 32) : Prog (TpuEff nD τ sig (Elt F) Λ₀ .tc) (PUnit) :=
  k0_part32 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 d0 v2 v4 v972

/-- Piece 33. -/
abbrev P33 : Prog (TpuEff nD τ sig (Elt F) Λ₀ .tc) (FVec F S256x1024 .bf16) :=
  k0_part33 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11

end Cert.RunKernelIdeal

end
-- ==== Proof.RunKernelIdeal.Slab.lean ====
/-
# Buffers of eight slabs

A scratch buffer of the kernel that holds one matrix per head is written slab by slab. Eight stores leave the array
whose slab `k` is the `k`-th payload, and a load of slab `k` reads that payload. Also: what a copy through a squeezed
view leaves in the slot it fills.
-/
module

public import proofs.«01_k».proof.Proof.RunKernelIdeal.Slots

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {a b : ℕ} {e : EltTy}

/-- The array of eight slabs `w 0, …, w 7`. -/
def slab (w : Fin 8 → Vec F ⟨3, ![1, a, b]⟩ e) : Vec F ⟨3, ![8, a, b]⟩ e :=
  fun i => w (i 0) (fun d => match d with | 0 => (0 : Fin 1) | 1 => (i 1 : Fin a) | 2 => (i 2 : Fin b))

omit [FloatOps F] in
/-- The element of slab `k` at a place of that slab. -/
theorem slab_emb (w : Fin 8 → Vec F ⟨3, ![1, a, b]⟩ e) (k : Fin 8) {off : Fin 3 → ℕ} (hoff : off = ![k.val, 0, 0])
    (i : ∀ d, off d + (⟨3, ![1, a, b]⟩ : Shape).size d ≤ (⟨3, ![8, a, b]⟩ : Shape).size d)
    (x : (⟨3, ![1, a, b]⟩ : Shape).Idx) :
    slab w ((Rect.unit (s := ⟨3, ![8, a, b]⟩) off (⟨3, ![1, a, b]⟩ : Shape).size i).emb x) = w k x := by
  subst hoff
  unfold slab
  have h0 : ((Rect.unit (s := ⟨3, ![8, a, b]⟩) ![k.val, 0, 0] (⟨3, ![1, a, b]⟩ : Shape).size i).emb x) 0 = k := by
    apply Fin.ext
    have := (x 0).isLt
    have hx : (x 0).val = 0 := by
      change (x 0).val < 1 at this
      omega
    show k.val + 1 * (x 0).val = k.val
    omega
  have h1 : (fun d => match d with
      | 0 => (0 : Fin 1)
      | 1 => (((Rect.unit (s := ⟨3, ![8, a, b]⟩) ![k.val, 0, 0] (⟨3, ![1, a, b]⟩ : Shape).size i).emb x) 1 : Fin a)
      | 2 => (((Rect.unit (s := ⟨3, ![8, a, b]⟩) ![k.val, 0, 0] (⟨3, ![1, a, b]⟩ : Shape).size i).emb x) 2 : Fin b) : (⟨3, ![1, a, b]⟩ : Shape).Idx) = x := by
    funext d
    apply Fin.ext
    match d with
    | 0 =>
      have := (x 0).isLt
      change (x 0).val < 1 at this
      show 0 = (x 0).val
      omega
    | 1 => show 0 + 1 * (x 1).val = (x 1).val; omega
    | 2 => show 0 + 1 * (x 2).val = (x 2).val; omega
  exact (congrFun (congrArg w h0) _).trans (congrArg (w k) h1)

omit [FloatOps F] in
/-- A load of slab `k`. -/
theorem slab_load (w : Fin 8 → Vec F ⟨3, ![1, a, b]⟩ e) (k : Fin 8) {off : Fin 3 → ℕ} (hoff : off = ![k.val, 0, 0])
    (i : ∀ d, off d + (⟨3, ![1, a, b]⟩ : Shape).size d ≤ (⟨3, ![8, a, b]⟩ : Shape).size d) :
    (fun x => slab w ((Rect.unit (s := ⟨3, ![8, a, b]⟩) off (⟨3, ![1, a, b]⟩ : Shape).size i).emb x)) = w k :=
  funext fun x => slab_emb w k hoff i x

omit [FloatOps F] in
/-- Eight stores, one per slab. -/
theorem writes8 (v : View sig .tc .vmem ⟨3, ![8, a, b]⟩ e) (f : v.ty.Contents (Elt F)) {i0 i1 i2 i3 i4 i5 i6 i7}
    {w0 w1 w2 w3 w4 w5 w6 w7 : Vec F ⟨3, ![1, a, b]⟩ e} (w : Fin 8 → Vec F ⟨3, ![1, a, b]⟩ e)
    (h0 : w0 = w 0) (h1 : w1 = w 1) (h2 : w2 = w 2) (h3 : w3 = w 3) (h4 : w4 = w 4) (h5 : w5 = w 5) (h6 : w6 = w 6) (h7 : w7 = w 7) :
    v.read (Elt F) (v.writes (Elt F) f [⟨Rect.unit (s := ⟨3, ![8, a, b]⟩) ![7, 0, 0] (⟨3, ![1, a, b]⟩ : Shape).size i7, w7⟩, ⟨Rect.unit (s := ⟨3, ![8, a, b]⟩) ![6, 0, 0] (⟨3, ![1, a, b]⟩ : Shape).size i6, w6⟩, ⟨Rect.unit (s := ⟨3, ![8, a, b]⟩) ![5, 0, 0] (⟨3, ![1, a, b]⟩ : Shape).size i5, w5⟩, ⟨Rect.unit (s := ⟨3, ![8, a, b]⟩) ![4, 0, 0] (⟨3, ![1, a, b]⟩ : Shape).size i4, w4⟩, ⟨Rect.unit (s := ⟨3, ![8, a, b]⟩) ![3, 0, 0] (⟨3, ![1, a, b]⟩ : Shape).size i3, w3⟩, ⟨Rect.unit (s := ⟨3, ![8, a, b]⟩) ![2, 0, 0] (⟨3, ![1, a, b]⟩ : Shape).size i2, w2⟩, ⟨Rect.unit (s := ⟨3, ![8, a, b]⟩) ![1, 0, 0] (⟨3, ![1, a, b]⟩ : Shape).size i1, w1⟩, ⟨Rect.unit (s := ⟨3, ![8, a, b]⟩) ![0, 0, 0] (⟨3, ![1, a, b]⟩ : Shape).size i0, w0⟩]) = slab w := by
  subst h0 h1 h2 h3 h4 h5 h6 h7
  funext y
  refine View.read_writes_apply_of_pieces v f (slab w) _ ?_ y ?_
  · simp only [List.forall_mem_cons]
    refine ⟨fun x => (slab_emb w 7 rfl i7 x).symm, fun x => (slab_emb w 6 rfl i6 x).symm, fun x => (slab_emb w 5 rfl i5 x).symm, fun x => (slab_emb w 4 rfl i4 x).symm, fun x => (slab_emb w 3 rfl i3 x).symm, fun x => (slab_emb w 2 rfl i2 x).symm, fun x => (slab_emb w 1 rfl i1 x).symm, fun x => (slab_emb w 0 rfl i0 x).symm, ?_⟩
    intro p hp; exact absurd hp List.not_mem_nil
  · have hy := (y 0).isLt
    change (y 0).val < 8 at hy
    have key : ∀ k : Fin 8, ∀ i, (y 0).val = k.val → y ∈ (Rect.unit (s := ⟨3, ![8, a, b]⟩) ![k.val, 0, 0] (⟨3, ![1, a, b]⟩ : Shape).size i).set := by
      intro k i hk
      refine (Rect.unit (s := ⟨3, ![8, a, b]⟩) ![k.val, 0, 0] (⟨3, ![1, a, b]⟩ : Shape).size i).mem_set.mpr ?_
      intro d
      match d with
      | 0 => exact ⟨0, Nat.zero_lt_one, by show (y 0).val = k.val + 1 * 0; omega⟩
      | 1 => exact ⟨(y 1).val, (y 1).isLt, by show (y 1).val = 0 + 1 * (y 1).val; omega⟩
      | 2 => exact ⟨(y 2).val, (y 2).isLt, by show (y 2).val = 0 + 1 * (y 2).val; omega⟩
    have hc : (y 0).val = 7 ∨ (y 0).val = 6 ∨ (y 0).val = 5 ∨ (y 0).val = 4 ∨ (y 0).val = 3 ∨ (y 0).val = 2 ∨ (y 0).val = 1 ∨ (y 0).val = 0 := by omega
    simp only [List.mem_cons, List.not_mem_nil, _root_.or_false, exists_eq_or_imp, exists_eq_left]
    exact hc.imp (key 7 i7) (Or.imp (key 6 i6) (Or.imp (key 5 i5) (Or.imp (key 4 i4) (Or.imp (key 3 i3) (Or.imp (key 2 i2) (Or.imp (key 1 i1) (key 0 i0)))))))

omit [FloatOps F] in
/-- What a copy into a squeezed slot leaves, read through the slot with its unit axis. -/
theorem read_staged {κ : Kind} {sp : Space} {s s' : Shape} (v : View sig κ sp s e) (h : s'.numel = s.numel)
    (g : v.ty.Contents (Elt F)) (w : s'.Idx → Elt F e) :
    v.read (Elt F) ((v.reshape s' h).write (Elt F) g w Finset.univ) = fun x => w ((Shape.reshapeEquiv h).symm x) := by
  rw [View.write_reshape_univ, View.read_write_univ]

omit [FloatOps F] in
/-- A buffer's contents may be restated. -/
theorem pts_of_eq {ℓ : Loc nD τ sig} {q : PosShare TreeShare} {f g : Buf (Elt F) ℓ} (h : f = g) : (ℓ ↦{q} f : sProp 𝕄) ⊢ (ℓ ↦{q} g) :=
  Entails.of_eq (by rw [h])

end Cert.RunKernelIdeal

end
-- ==== Proof.RunKernelIdeal.Kv.lean ====
/-
# The keys and values

The first phase of the kernel after its hand-shake: the block the device holds starts round the ring, and the keys and
values of the device's eight heads come in through the four staging slots, are rounded and are kept, one slab a head.
The last slab of the values is stored by the next phase.
-/
module

public import proofs.«01_k».proof.Proof.RunKernelIdeal.Pieces
public import proofs.«01_k».proof.Proof.RunKernelIdeal.Slab

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The keys of head `8 c + h`, as the copy into a staging slot delivers them. -/
def kcv (c : Dev nD) (kc : main_arg2.ty.Contents (Elt F)) (h : Fin 8) : Vec F S1x4096x128 .f32 := fun x =>
  (((Memref.whole main_arg2).slice (Rect.unit (s := S1x4096x32x128) (k0_off3 c (BitVec.ofNat 32 h.val)) S1x4096x1x128.size (k0_off3_inb c h)) (fun _ => rfl)).squeeze S4096x128
    squeezes_S1x4096x1x128_S4096x128).view.read (Elt F) kc ((Shape.reshapeEquiv squeezes_S1x4096x128_S4096x128.numel_eq).symm x)

/-- The values of head `8 c + h`, likewise. -/
def vcv (c : Dev nD) (vc : main_arg3.ty.Contents (Elt F)) (h : Fin 8) : Vec F S1x4096x128 .f32 := fun x =>
  (((Memref.whole main_arg3).slice (Rect.unit (s := S1x4096x32x128) (k0_off3 c (BitVec.ofNat 32 h.val)) S1x4096x1x128.size (k0_off3_inb c h)) (fun _ => rfl)).squeeze S4096x128
    squeezes_S1x4096x1x128_S4096x128).view.read (Elt F) vc ((Shape.reshapeEquiv squeezes_S1x4096x128_S4096x128.numel_eq).symm x)

/-- The eight slabs of rounded keys of device `c`. -/
def kbf (c : Dev nD) (kc : main_arg2.ty.Contents (Elt F)) : cc0_scratch3.ty.Contents (Elt F) := slab (fun h => k0_pay3 (kcv c kc h))

/-- The eight slabs of rounded values of device `c`. -/
def vbf (c : Dev nD) (vc : main_arg3.ty.Contents (Elt F)) : cc0_scratch4.ty.Contents (Elt F) := slab (fun h => k0_pay3 (vcv c vc h))

theorem off_bk0 (c : Dev nD) : (![c.val, 0, 0] : Fin 3 → ℕ) = ![(bk 0 c).val, 0, 0] := by revert c; decide

/-- One slot of the four the copies of keys and values land in, with whatever it holds. -/
abbrev stgs (c : Dev nD) : sProp 𝕄 := iprop(
      (∃ f : cc0_scratch5.ty.Contents (Elt F), ((Memref.whole cc0_scratch5).slice (Rect.unit (s := S4x4096x128) ![0, 0, 0] S1x4096x128.size inb_S4x4096x128_S1x4096x128_0_0_0) (fun _ => rfl)).view.loc (c : Thread nD τ) ↦[((Memref.whole cc0_scratch5).slice (Rect.unit (s := S4x4096x128) ![0, 0, 0] S1x4096x128.size inb_S4x4096x128_S1x4096x128_0_0_0) (fun _ => rfl)).view.set]{fullShare} f)
      ∗ (∃ f : cc0_scratch5.ty.Contents (Elt F), ((Memref.whole cc0_scratch5).slice (Rect.unit (s := S4x4096x128) ![1, 0, 0] S1x4096x128.size inb_S4x4096x128_S1x4096x128_1_0_0) (fun _ => rfl)).view.loc (c : Thread nD τ) ↦[((Memref.whole cc0_scratch5).slice (Rect.unit (s := S4x4096x128) ![1, 0, 0] S1x4096x128.size inb_S4x4096x128_S1x4096x128_1_0_0) (fun _ => rfl)).view.set]{fullShare} f)
      ∗ (∃ f : cc0_scratch5.ty.Contents (Elt F), ((Memref.whole cc0_scratch5).slice (Rect.unit (s := S4x4096x128) ![2, 0, 0] S1x4096x128.size inb_S4x4096x128_S1x4096x128_2_0_0) (fun _ => rfl)).view.loc (c : Thread nD τ) ↦[((Memref.whole cc0_scratch5).slice (Rect.unit (s := S4x4096x128) ![2, 0, 0] S1x4096x128.size inb_S4x4096x128_S1x4096x128_2_0_0) (fun _ => rfl)).view.set]{fullShare} f)
      ∗ (∃ f : cc0_scratch5.ty.Contents (Elt F), ((Memref.whole cc0_scratch5).slice (Rect.unit (s := S4x4096x128) ![3, 0, 0] S1x4096x128.size inb_S4x4096x128_S1x4096x128_3_0_0) (fun _ => rfl)).view.loc (c : Thread nD τ) ↦[((Memref.whole cc0_scratch5).slice (Rect.unit (s := S4x4096x128) ![3, 0, 0] S1x4096x128.size inb_S4x4096x128_S1x4096x128_3_0_0) (fun _ => rfl)).view.set]{fullShare} f))

/-- The counters of the four staging copies, at nothing. -/
abbrev kvsems (c : Dev nD) : sProp 𝕄 := iprop(semVal ((c : Thread nD τ), .dma (dm 4)) 0 ∗ semVal ((c : Thread nD τ), .dma (dm 5)) 0
  ∗ semVal ((c : Thread nD τ), .dma (dm 6)) 0 ∗ semVal ((c : Thread nD τ), .dma (dm 7)) 0)

/-- What the first hop of the gather needs. -/
abbrev agPre (X : Dev nD → Vec F S1x256x1024 .bf16) (RS : Fin 3 → Dev nD → Vec F S1x256x1024 .bf16) (K : Dev nD × Fin 13 → ℕ) (c : Dev nD)
    (h : Fin 3) (iS iR : Fin 20) (jS jR : Fin 13) : sProp 𝕄 := iprop(
  cellInv ER (ringRd X RS) (K (c, jS)) (dCell c iS) ∗ cellInv ER (ringRd X RS) (K (nxt c, jR)) (dCell (nxt c) iR)
  ∗ xs c (bk h.val c) fullShare.left (X (bk h.val c)) ∗ (∃ w, xs (nxt c) (bk h.val c) fullShare w)
  ∗ dutyTok ER (dCell c iS) 0 false ∗ reached ER (dCell c iS) 0
  ∗ dutyTok ER (dCell (nxt c) iR) 0 false ∗ reached ER (dCell (nxt c) iR) 0)

omit [FloatOps F] in
theorem rd3 (g : cc0_scratch3.ty.Contents (Elt F)) : (Memref.whole cc0_scratch3).view.read (Elt F) g = g := rfl
omit [FloatOps F] in
theorem rd4 (g : cc0_scratch4.ty.Contents (Elt F)) : (Memref.whole cc0_scratch4).view.read (Elt F) g = g := rfl

/-! A load of a staging slot after a copy has filled it. -/

omit [FloatOps F] in
theorem kst0 (g : cc0_scratch5.ty.Contents (Elt F)) (w : S4096x128.Idx → Elt F .f32) {h1} {h2} :
    View.readAt (Elt F) (Memref.whole cc0_scratch5).view (Rect.unit (s := S4x4096x128) ![0, 0, 0] S1x4096x128.size inb_S4x4096x128_S1x4096x128_0_0_0).toLoadRect
      (View.write (Elt F) (((Memref.whole cc0_scratch5).slice (Rect.unit (s := S4x4096x128) ![0, 0, 0] S1x4096x128.size h1) h2).squeeze S4096x128 squeezes_S1x4096x128_S4096x128).view
        g w Finset.univ) = fun x => w ((Shape.reshapeEquiv squeezes_S1x4096x128_S4096x128.numel_eq).symm x) :=
  read_staged ((Memref.whole cc0_scratch5).slice (Rect.unit (s := S4x4096x128) ![0, 0, 0] S1x4096x128.size inb_S4x4096x128_S1x4096x128_0_0_0) (fun _ => rfl)).view squeezes_S1x4096x128_S4096x128.numel_eq g w

omit [FloatOps F] in
theorem kst1 (g : cc0_scratch5.ty.Contents (Elt F)) (w : S4096x128.Idx → Elt F .f32) {h1} {h2} :
    View.readAt (Elt F) (Memref.whole cc0_scratch5).view (Rect.unit (s := S4x4096x128) ![1, 0, 0] S1x4096x128.size inb_S4x4096x128_S1x4096x128_1_0_0).toLoadRect
      (View.write (Elt F) (((Memref.whole cc0_scratch5).slice (Rect.unit (s := S4x4096x128) ![1, 0, 0] S1x4096x128.size h1) h2).squeeze S4096x128 squeezes_S1x4096x128_S4096x128).view
        g w Finset.univ) = fun x => w ((Shape.reshapeEquiv squeezes_S1x4096x128_S4096x128.numel_eq).symm x) :=
  read_staged ((Memref.whole cc0_scratch5).slice (Rect.unit (s := S4x4096x128) ![1, 0, 0] S1x4096x128.size inb_S4x4096x128_S1x4096x128_1_0_0) (fun _ => rfl)).view squeezes_S1x4096x128_S4096x128.numel_eq g w

omit [FloatOps F] in
theorem kst2 (g : cc0_scratch5.ty.Contents (Elt F)) (w : S4096x128.Idx → Elt F .f32) {h1} {h2} :
    View.readAt (Elt F) (Memref.whole cc0_scratch5).view (Rect.unit (s := S4x4096x128) ![2, 0, 0] S1x4096x128.size inb_S4x4096x128_S1x4096x128_2_0_0).toLoadRect
      (View.write (Elt F) (((Memref.whole cc0_scratch5).slice (Rect.unit (s := S4x4096x128) ![2, 0, 0] S1x4096x128.size h1) h2).squeeze S4096x128 squeezes_S1x4096x128_S4096x128).view
        g w Finset.univ) = fun x => w ((Shape.reshapeEquiv squeezes_S1x4096x128_S4096x128.numel_eq).symm x) :=
  read_staged ((Memref.whole cc0_scratch5).slice (Rect.unit (s := S4x4096x128) ![2, 0, 0] S1x4096x128.size inb_S4x4096x128_S1x4096x128_2_0_0) (fun _ => rfl)).view squeezes_S1x4096x128_S4096x128.numel_eq g w

omit [FloatOps F] in
theorem kst3 (g : cc0_scratch5.ty.Contents (Elt F)) (w : S4096x128.Idx → Elt F .f32) {h1} {h2} :
    View.readAt (Elt F) (Memref.whole cc0_scratch5).view (Rect.unit (s := S4x4096x128) ![3, 0, 0] S1x4096x128.size inb_S4x4096x128_S1x4096x128_3_0_0).toLoadRect
      (View.write (Elt F) (((Memref.whole cc0_scratch5).slice (Rect.unit (s := S4x4096x128) ![3, 0, 0] S1x4096x128.size h1) h2).squeeze S4096x128 squeezes_S1x4096x128_S4096x128).view
        g w Finset.univ) = fun x => w ((Shape.reshapeEquiv squeezes_S1x4096x128_S4096x128.numel_eq).symm x) :=
  read_staged ((Memref.whole cc0_scratch5).slice (Rect.unit (s := S4x4096x128) ![3, 0, 0] S1x4096x128.size inb_S4x4096x128_S1x4096x128_3_0_0) (fun _ => rfl)).view squeezes_S1x4096x128_S4096x128.numel_eq g w

set_option maxHeartbeats 4000000 in
/-- The phase as a whole: the first hop is under way, the keys and values of the eight heads are kept, the staging slots and
    their counters are as they were. -/
theorem kv_phase (X : Dev nD → Vec F S1x256x1024 .bf16) (RS : Fin 3 → Dev nD → Vec F S1x256x1024 .bf16) (K : Dev nD × Fin 13 → ℕ) (c : Dev nD) (v2 : BitVec 32) (W : Waits sig Unit)
    (kc : main_arg2.ty.Contents (Elt F)) (vc : main_arg3.ty.Contents (Elt F)) (f1 : cc0_scratch3.ty.Contents (Elt F)) (f2 : cc0_scratch4.ty.Contents (Elt F))
   {α : Type} {Q : α → sProp 𝕄} (k : FVec F S4096x128 .bf16 → Prog (TpuEff nD τ sig (Elt F) Λ₀ .tc) α)
   : iprop(levAts L lv ∗ owes (c : Thread nD τ) (owe c 6) W ∗ agPre X RS K c 0 8 11 1 4
      ∗ ((Memref.whole main_arg2).view.loc (c : Thread nD τ) ↦{fullShare} kc) ∗ ((Memref.whole main_arg3).view.loc (c : Thread nD τ) ↦{fullShare} vc)
      ∗ stgs (F := F) c
      ∗ ((Memref.whole cc0_scratch3).view.loc (c : Thread nD τ) ↦{fullShare} f1) ∗ ((Memref.whole cc0_scratch4).view.loc (c : Thread nD τ) ↦{fullShare} f2)
      ∗ kvsems (F := F) c)
     ⊢ iprop((∀ (v377 : FVec F S4096x128 .bf16) (fv : cc0_scratch4.ty.Contents (Elt F)) (W' : Waits sig Unit),
         (⌜∀ f', f' = (Memref.whole cc0_scratch4).view.writes (Elt F) fv [⟨Rect.unit (s := S8x4096x128) ![7, 0, 0] S1x4096x128.size inb_S8x4096x128_S1x4096x128_7_0_0, k0_pay21 v377⟩] → f' = vbf c vc⌝
          ∗ owes (c : Thread nD τ) (owe c 5) W' ∗ cred (tallyAt (dCell c 8) () N)
          ∗ ((Memref.whole main_arg2).view.loc (c : Thread nD τ) ↦{fullShare} kc) ∗ ((Memref.whole main_arg3).view.loc (c : Thread nD τ) ↦{fullShare} vc)
          ∗ stgs (F := F) c
          ∗ ((Memref.whole cc0_scratch3).view.loc (c : Thread nD τ) ↦{fullShare} kbf c kc) ∗ ((Memref.whole cc0_scratch4).view.loc (c : Thread nD τ) ↦{fullShare} fv)
          ∗ kvsems (F := F) c) -∗ WP c (k v377) Q)
       -∗ WP c (P2 (F := F) c v2 >>= fun r => P3 (F := F) c v2 r.1 r.2 >>= fun _ => P4 (F := F) c v2 >>= fun _ => P5 (F := F) c v2 >>= fun _ => P6 (F := F) c v2 >>= fun v159 => P7 (F := F) c v2 v159 >>= fun _ => P8 (F := F) c v2 >>= fun _ => P9 (F := F) c v2 >>= fun _ => P10 (F := F) c v2 >>= fun _ => P11 (F := F) c v2 >>= fun _ => P12 (F := F) c v2 >>= fun _ => P13 (F := F) c v2 >>= fun v349 => P14 (F := F) c v2 v349 >>= fun v377 => k v377) Q) := by
  have hmw4 := mayWait (F := F) c (.dma (dm 4)) 5 (show ∀ j < 5, 0 < lvT j by decide)
  have hmw5 := mayWait (F := F) c (.dma (dm 5)) 5 (show ∀ j < 5, 0 < lvT j by decide)
  have hmw6 := mayWait (F := F) c (.dma (dm 6)) 5 (show ∀ j < 5, 0 < lvT j by decide)
  have hmw7 := mayWait (F := F) c (.dma (dm 7)) 5 (show ∀ j < 5, 0 < lvT j by decide)
  unfold P2 P3 P4 P5 P6 P7 P8 P9 P10 P11 P12 P13 P14 WP
  rw [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold k0_part2_skel k0_part3_skel k0_part4_skel k0_part5_skel k0_part6_skel k0_part7_skel k0_part8_skel k0_part9_skel k0_part10_skel k0_part11_skel k0_part12_skel k0_part13_skel k0_part14_skel
  iintro ⟨#HL, HO, ⟨HI1, HI2, Hx, Hd, Ht1, Hr1, Ht2, Hr2⟩, HK, HV, ⟨⟨%f00, Hst0⟩, ⟨%f01, Hst1⟩, ⟨%f02, Hst2⟩, ⟨%f03, Hst3⟩⟩, Hk, Hv, ⟨S4, S5, S6, S7⟩⟩ Hcont
  sl_exec
  iapply (wp_send_ag X RS K c ⟨k0_dev3 c, k0_dev3_lt c⟩ (dev3_eq c) 0 8 11 1 4 rfl rfl (off := k0_off2 c) (inb := k0_off2_inb c) ((k0_off2_eq c).trans (off_bk0 c)) rfl rfl (owe c 5) W)
    $$ [HI1 HI2 Hx Hd HO Ht1 Hr1 Ht2 Hr2]
  · isplitl [HI1]; · iexact HI1
    isplitl [HI2]; · iexact HI2
    isplitl [Hx]; · iexact Hx
    isplitl [Hd]; · iexact Hd
    isplitl [HO]; · iexact HO
    isplitl [Ht1]; · iexact Ht1
    isplitl [Hr1]; · iexact Hr1
    isplitl [Ht2]; · iexact Ht2
    iexact Hr2
  iintro ⟨HC, HO⟩
  unfold WP
  sl_exec
  have ke0 : kv_phase.sl.v69 (F := F) c kc f00 = kcv c kc 0 := by
    unfold kv_phase.sl.v69
    rw [kst0]
    rfl
  have k_0 : k0_pay3 (kv_phase.sl.v69 (F := F) c kc f00) = k0_pay3 (kcv c kc 0) := congrArg (k0_pay3 (F := F)) ke0
  have ke1 : kv_phase.sl.v113 (F := F) c kc f01 = kcv c kc 1 := by
    unfold kv_phase.sl.v113
    rw [kst1]
    rfl
  have k_1 : k0_pay5 (kv_phase.sl.v113 (F := F) c kc f01) = k0_pay3 (kcv c kc 1) := congrArg (k0_pay3 (F := F)) ke1
  have ke2 : kv_phase.sl.v157 (F := F) c kc f00 = kcv c kc 2 := by
    unfold kv_phase.sl.v157
    rw [kst0]
    rfl
  have k_2 : k0_pay8 (k0_pay7 (kv_phase.sl.v157 (F := F) c kc f00)) = k0_pay3 (kcv c kc 2) := congrArg (k0_pay3 (F := F)) ke2
  have ke3 : kv_phase.sl.v201 (F := F) c kc f01 = kcv c kc 3 := by
    unfold kv_phase.sl.v201
    rw [kst1]
    rfl
  have k_3 : k0_pay10 (kv_phase.sl.v201 (F := F) c kc f01) = k0_pay3 (kcv c kc 3) := congrArg (k0_pay3 (F := F)) ke3
  have ke4 : kv_phase.sl.v245 (F := F) c kc f00 = kcv c kc 4 := by
    unfold kv_phase.sl.v245
    rw [kst0]
    rfl
  have k_4 : k0_pay12 (kv_phase.sl.v245 (F := F) c kc f00) = k0_pay3 (kcv c kc 4) := congrArg (k0_pay3 (F := F)) ke4
  have ke5 : kv_phase.sl.v289 (F := F) c kc f01 = kcv c kc 5 := by
    unfold kv_phase.sl.v289
    rw [kst1]
    rfl
  have k_5 : k0_pay14 (kv_phase.sl.v289 (F := F) c kc f01) = k0_pay3 (kcv c kc 5) := congrArg (k0_pay3 (F := F)) ke5
  have ke6 : kv_phase.sl.v333 (F := F) c kc f00 = kcv c kc 6 := by
    unfold kv_phase.sl.v333
    rw [kst0]
    rfl
  have k_6 : k0_pay16 (kv_phase.sl.v333 (F := F) c kc f00) = k0_pay3 (kcv c kc 6) := congrArg (k0_pay3 (F := F)) ke6
  have ke7 : kv_phase.sl.v361 (F := F) c kc f01 = kcv c kc 7 := by
    unfold kv_phase.sl.v361
    rw [kst1]
    rfl
  have k_7 : k0_pay19 (kv_phase.sl.v361 (F := F) c kc f01) = k0_pay3 (kcv c kc 7) := congrArg (k0_pay3 (F := F)) ke7
  have ve0 : kv_phase.sl.v83 (F := F) c vc f02 = vcv c vc 0 := by
    unfold kv_phase.sl.v83
    rw [kst2]
    rfl
  have v_0 : k0_pay4 (kv_phase.sl.v83 (F := F) c vc f02) = k0_pay3 (vcv c vc 0) := congrArg (k0_pay3 (F := F)) ve0
  have ve1 : kv_phase.sl.v127 (F := F) c vc f03 = vcv c vc 1 := by
    unfold kv_phase.sl.v127
    rw [kst3]
    rfl
  have v_1 : k0_pay6 (kv_phase.sl.v127 (F := F) c vc f03) = k0_pay3 (vcv c vc 1) := congrArg (k0_pay3 (F := F)) ve1
  have ve2 : kv_phase.sl.v171 (F := F) c vc f02 = vcv c vc 2 := by
    unfold kv_phase.sl.v171
    rw [kst2]
    rfl
  have v_2 : k0_pay9 (kv_phase.sl.v171 (F := F) c vc f02) = k0_pay3 (vcv c vc 2) := congrArg (k0_pay3 (F := F)) ve2
  have ve3 : kv_phase.sl.v215 (F := F) c vc f03 = vcv c vc 3 := by
    unfold kv_phase.sl.v215
    rw [kst3]
    rfl
  have v_3 : k0_pay11 (kv_phase.sl.v215 (F := F) c vc f03) = k0_pay3 (vcv c vc 3) := congrArg (k0_pay3 (F := F)) ve3
  have ve4 : kv_phase.sl.v259 (F := F) c vc f02 = vcv c vc 4 := by
    unfold kv_phase.sl.v259
    rw [kst2]
    rfl
  have v_4 : k0_pay13 (kv_phase.sl.v259 (F := F) c vc f02) = k0_pay3 (vcv c vc 4) := congrArg (k0_pay3 (F := F)) ve4
  have ve5 : kv_phase.sl.v303 (F := F) c vc f03 = vcv c vc 5 := by
    unfold kv_phase.sl.v303
    rw [kst3]
    rfl
  have v_5 : k0_pay15 (kv_phase.sl.v303 (F := F) c vc f03) = k0_pay3 (vcv c vc 5) := congrArg (k0_pay3 (F := F)) ve5
  have ve6 : kv_phase.sl.v347 (F := F) c vc f02 = vcv c vc 6 := by
    unfold kv_phase.sl.v347
    rw [kst2]
    rfl
  have v_6 : k0_pay18 (k0_pay17 (kv_phase.sl.v347 (F := F) c vc f02)) = k0_pay3 (vcv c vc 6) := congrArg (k0_pay3 (F := F)) ve6
  have ve7 : kv_phase.sl.v375 (F := F) c vc f03 = vcv c vc 7 := by
    unfold kv_phase.sl.v375
    rw [kst3]
    rfl
  have v_7 : k0_pay21 (k0_pay20 (kv_phase.sl.v375 (F := F) c vc f03)) = k0_pay3 (vcv c vc 7) := congrArg (k0_pay3 (F := F)) ve7
  have e3 := writes8 (i0 := inb_S8x4096x128_S1x4096x128_0_0_0) (i1 := inb_S8x4096x128_S1x4096x128_1_0_0) (i2 := inb_S8x4096x128_S1x4096x128_2_0_0) (i3 := inb_S8x4096x128_S1x4096x128_3_0_0) (i4 := inb_S8x4096x128_S1x4096x128_4_0_0) (i5 := inb_S8x4096x128_S1x4096x128_5_0_0) (i6 := inb_S8x4096x128_S1x4096x128_6_0_0) (i7 := inb_S8x4096x128_S1x4096x128_7_0_0) (Memref.whole cc0_scratch3).view f1 (fun h => k0_pay3 (kcv c kc h)) k_0 k_1 k_2 k_3 k_4 k_5 k_6 k_7
  rw [rd3] at e3
  iapply Hcont
  isplitr
  · ipureintro
    intro f' hf'
    rw [hf']
    have e := writes8 (i0 := inb_S8x4096x128_S1x4096x128_0_0_0) (i1 := inb_S8x4096x128_S1x4096x128_1_0_0) (i2 := inb_S8x4096x128_S1x4096x128_2_0_0) (i3 := inb_S8x4096x128_S1x4096x128_3_0_0) (i4 := inb_S8x4096x128_S1x4096x128_4_0_0) (i5 := inb_S8x4096x128_S1x4096x128_5_0_0) (i6 := inb_S8x4096x128_S1x4096x128_6_0_0) (i7 := inb_S8x4096x128_S1x4096x128_7_0_0) (Memref.whole cc0_scratch4).view f2 (fun h => k0_pay3 (vcv c vc h)) v_0 v_1 v_2 v_3 v_4 v_5 v_6 v_7
    rw [rd4] at e
    rw [← View.writes_append]
    exact e
  isplitl [HO]; · iexact HO
  isplitl [HC]; · iexact HC
  isplitl [HK]; · iexact HK
  isplitl [HV]; · iexact HV
  isplitl [Hst0 Hst1 Hst2 Hst3]
  · isplitl [Hst0]; · iexists _; iexact Hst0
    isplitl [Hst1]; · iexists _; iexact Hst1
    isplitl [Hst2]; · iexists _; iexact Hst2
    iexists _; iexact Hst3
  isplitl [Hk]
  · iapply (pts_of_eq (ℓ := (Memref.whole cc0_scratch3).view.loc (c : Thread nD τ)) (q := fullShare) (g := kbf c kc) e3)
    iexact Hk
  isplitl [Hv]; · iexact Hv
  isplitl [S4]; · iexact S4
  isplitl [S5]; · iexact S5
  isplitl [S6]; · iexact S6
  iexact S7

end Cert.RunKernelIdeal

end
-- ==== Proof.RunKernelIdeal.Step.lean ====
/-
# One chunk's work, head by head

The contribution of one block of rows to the device's partial sums: the queries of the eight heads, and a loop over the
heads that adds one head's softmax, its product with the values and with that head's rows of the output matrix. The four
chunks print this arithmetic cut at different places; here it is one function, `step`, and the four loops run it.
-/
module

public import proofs.«01_k».proof.Proof.RunKernelIdeal.Kv

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One head added: the arithmetic of a trip of the first chunk's loop, of the block's number as a word. -/
def step (o : BitVec 32) (acc : FVec F S256x1024 .f32) (q : Vec F S1x256x128 .bf16) (k v : Vec F S1x4096x128 .bf16) (w : Vec F S128x1024 .bf16) : FVec F S256x1024 .f32 :=
  k0_pay36 o (iota .tc S256x4096 32 [1] iota_S256x4096_d1_w32) k0_pay32 k0_pay33 k0_pay34 acc q k v w

theorem step2 (o : BitVec 32) (acc : FVec F S256x1024 .f32) (q : Vec F S1x256x128 .bf16) (k v : Vec F S1x4096x128 .bf16) (w : Vec F S128x1024 .bf16) :
    k0_pay51 (iota .tc S256x4096 32 [1] iota_S256x4096_d1_w32) k0_pay48 (k0_pay49 o) acc q k v w = step o acc q k v w := rfl
theorem step3 (o : BitVec 32) (acc : FVec F S256x1024 .f32) (q : Vec F S1x256x128 .bf16) (k v : Vec F S1x4096x128 .bf16) (w : Vec F S128x1024 .bf16) :
    k0_pay70 (k0_pay66 o (iota .tc S256x4096 32 [0] iota_S256x4096_d0_w32) 64#32 k0_pay63 k0_pay64 k0_pay65) (k0_pay67 (iota .tc S256x4096 32 [1] iota_S256x4096_d1_w32)) (k0_pay68 o (iota .tc S256x4096 32 [0] iota_S256x4096_d0_w32) (iota .tc S256x4096 32 [1] iota_S256x4096_d1_w32) 64#32 k0_pay63 k0_pay64 k0_pay65) acc q k v w = step o acc q k v w := rfl
theorem step4 (o : BitVec 32) (acc : FVec F S256x1024 .f32) (q : Vec F S1x256x128 .bf16) (k v : Vec F S1x4096x128 .bf16) (w : Vec F S128x1024 .bf16) :
    k0_pay90 (k0_pay87 o (iota .tc S256x4096 32 [0] iota_S256x4096_d0_w32) (iota .tc S256x4096 32 [1] iota_S256x4096_d1_w32) 64#32 k0_pay83 k0_pay84 (Scalar.extui (Scalar.cmpi .sgt 64#32 0#32)) 0#32) (k0_pay88 o (iota .tc S256x4096 32 [0] iota_S256x4096_d0_w32) (iota .tc S256x4096 32 [1] iota_S256x4096_d1_w32) 64#32 k0_pay83 k0_pay84 (Scalar.extui (Scalar.cmpi .sgt 64#32 0#32)) 0#32) 0#32 acc q k v w = step o acc q k v w := rfl

theorem inb_q (k : Fin 8) : ∀ d, (![k.val, 0, 0] : Fin 3 → ℕ) d + S1x256x128.size d ≤ S8x256x128.size d := by
  revert k; decide
theorem inb_k (k : Fin 8) : ∀ d, (![k.val, 0, 0] : Fin 3 → ℕ) d + S1x4096x128.size d ≤ S8x4096x128.size d := by
  revert k; decide
theorem inb_w (k : Fin 8) : ∀ d, (![128 * k.val, 0] : Fin 2 → ℕ) d + S128x1024.size d ≤ S1024x1024.size d := by
  revert k; decide

/-- Head `k`'s rows of the output matrix. -/
def wrows (wo : Vec F S1024x1024 .bf16) (k : Fin 8) : Vec F S128x1024 .bf16 :=
  fun x => wo ((Rect.unit (s := S1024x1024) ![128 * k.val, 0] S128x1024.size (inb_w k)).emb x)

/-- The running sum before head `k`. -/
def accO (o : BitVec 32) (q : Fin 8 → Vec F S1x256x128 .bf16) (ks vs : Fin 8 → Vec F S1x4096x128 .bf16) (wo : Vec F S1024x1024 .bf16) : ℕ → FVec F S256x1024 .f32
  | 0 => k0_pay35
  | k + 1 => if h : k < 8 then step o (accO o q ks vs wo k) (q ⟨k, h⟩) (ks ⟨k, h⟩) (vs ⟨k, h⟩) (wrows wo ⟨k, h⟩) else accO o q ks vs wo k

theorem accO_succ (o : BitVec 32) (q : Fin 8 → Vec F S1x256x128 .bf16) (ks vs : Fin 8 → Vec F S1x4096x128 .bf16) (wo : Vec F S1024x1024 .bf16) (k : ℕ) (h : k < 8) :
    accO o q ks vs wo (k + 1) = step o (accO o q ks vs wo k) (q ⟨k, h⟩) (ks ⟨k, h⟩) (vs ⟨k, h⟩) (wrows wo ⟨k, h⟩) := by
  rw [accO]; exact dif_pos h

/-- The eight heads' queries of a block. -/
def qsl (x : Vec F S1x256x1024 .bf16) (wq : Vec F S1024x1024 .bf16) (h : Fin 8) : Vec F S1x256x128 .bf16 :=
  match h with
  | 0 => k0_pay23 x wq | 1 => k0_pay24 x wq | 2 => k0_pay25 x wq | 3 => k0_pay26 x wq
  | 4 => k0_pay28 (k0_pay27 x wq) | 5 => k0_pay29 (k0_pay22 x wq) | 6 => k0_pay30 (k0_pay22 x wq) | 7 => k0_pay31 (k0_pay22 x wq)

/-- What a chunk stores: the block's contribution to the partial sums, rounded. -/
def prodO (o : BitVec 32) (x : Vec F S1x256x1024 .bf16) (wq wo : Vec F S1024x1024 .bf16) (ks vs : Fin 8 → Vec F S1x4096x128 .bf16) : Vec F S1x256x1024 .bf16 :=
  k0_pay38 (k0_pay37 (accO o (qsl x wq) ks vs wo 8))

/-- What the loops read: queries, keys, values and the output matrix, each whole. -/
abbrev tripR (c : Dev nD) (wo : cc0_stg2_0.ty.Contents (Elt F)) (kb : cc0_scratch3.ty.Contents (Elt F)) (vb : cc0_scratch4.ty.Contents (Elt F)) (qb : cc0_scratch6.ty.Contents (Elt F)) : sProp 𝕄 := iprop(
  ((Memref.whole cc0_stg2_0).view.loc (c : Thread nD τ) ↦{fullShare} wo) ∗ ((Memref.whole cc0_scratch3).view.loc (c : Thread nD τ) ↦{fullShare} kb)
  ∗ ((Memref.whole cc0_scratch4).view.loc (c : Thread nD τ) ↦{fullShare} vb) ∗ ((Memref.whole cc0_scratch6).view.loc (c : Thread nD τ) ↦{fullShare} qb))

omit [FloatOps F] in
theorem trip_q (qs : Fin 8 → Vec F S1x256x128 .bf16) (k : Fin 8) {off : Fin 3 → ℕ} (h : off = ![k.val, 0, 0]) {i} :
    View.readAt (Elt F) (Memref.whole cc0_scratch6).view (Rect.unit (s := S8x256x128) off S1x256x128.size i).toLoadRect (slab qs) = qs k := slab_load qs k h i
omit [FloatOps F] in
theorem trip_k (qs : Fin 8 → Vec F S1x4096x128 .bf16) (k : Fin 8) {off : Fin 3 → ℕ} (h : off = ![k.val, 0, 0]) {i} :
    View.readAt (Elt F) (Memref.whole cc0_scratch3).view (Rect.unit (s := S8x4096x128) off S1x4096x128.size i).toLoadRect (slab qs) = qs k := slab_load qs k h i
omit [FloatOps F] in
theorem trip_v (qs : Fin 8 → Vec F S1x4096x128 .bf16) (k : Fin 8) {off : Fin 3 → ℕ} (h : off = ![k.val, 0, 0]) {i} :
    View.readAt (Elt F) (Memref.whole cc0_scratch4).view (Rect.unit (s := S8x4096x128) off S1x4096x128.size i).toLoadRect (slab qs) = qs k := slab_load qs k h i
omit [FloatOps F] in
theorem trip_w (wo : Vec F S1024x1024 .bf16) (k : Fin 8) {off : Fin 2 → ℕ} (h : off = ![128 * k.val, 0]) {i} :
    View.readAt (Elt F) (Memref.whole cc0_stg2_0).view (Rect.unit (s := S1024x1024) off S128x1024.size i).toLoadRect wo = wrows wo k := by
  subst h; rfl

/-! The four loops. -/

set_option maxHeartbeats 1000000 in
theorem trip1 (c : Dev nD) (o : BitVec 32) (wo : Vec F S1024x1024 .bf16) (ks vs : Fin 8 → Vec F S1x4096x128 .bf16) (qs : Fin 8 → Vec F S1x256x128 .bf16)
    (k : Fin k0_t1_loop.trips) (acc : FVec F S256x1024 .f32) (h8 : k.val < 8) :
    tripR (F := F) c wo (slab ks) (slab vs) (slab qs)
      ⊢ wp frame (wpE (defs₀ (F := F)) 𝒱₀ (c : Thread nD τ) none) Set.univ
          (k0_t1_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 o (iota .tc S256x4096 32 [1] iota_S256x4096_d1_w32) k0_pay32 k0_pay33 k0_pay34 k acc)
          (fun y => iprop(⌜y = step o acc (qs ⟨k.val, h8⟩) (ks ⟨k.val, h8⟩) (vs ⟨k.val, h8⟩) (wrows wo ⟨k.val, h8⟩)⌝ ∗ tripR (F := F) c wo (slab ks) (slab vs) (slab qs))) := by
  unfold k0_t1_body
  iintro ⟨H1, H2, H3, H4⟩
  sl_exec
  sl_step
  isplitr
  · ipureintro
    rw [trip_q qs ⟨k.val, h8⟩ (k0_off5_eq k), trip_k ks ⟨k.val, h8⟩ (k0_off6_eq k), trip_v vs ⟨k.val, h8⟩ (k0_off6_eq k), trip_w wo ⟨k.val, h8⟩ (k0_off7_eq k)]
    exact rfl
  isplitl [H1]; · iexact H1
  isplitl [H2]; · iexact H2
  isplitl [H3]; · iexact H3
  iexact H4

theorem loop1 (c : Dev nD) (o : BitVec 32) (wo : Vec F S1024x1024 .bf16) (ks vs : Fin 8 → Vec F S1x4096x128 .bf16) (qs : Fin 8 → Vec F S1x256x128 .bf16)
    {α : Type} {Q : α → sProp 𝕄} (kk : FVec F S256x1024 .f32 → Prog (TpuEff nD τ sig (Elt F) Λ₀ .tc) α) :
    tripR (F := F) c wo (slab ks) (slab vs) (slab qs)
      ⊢ iprop((tripR (F := F) c wo (slab ks) (slab vs) (slab qs) -∗ WP c (kk (accO o qs ks vs wo 8)) Q)
        -∗ WP c (Scf.Loop.for k0_t1_loop k0_t1_ok (k0_pay35 (F := F)) (k0_t1_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 o (iota .tc S256x4096 32 [1] iota_S256x4096_d1_w32) k0_pay32 k0_pay33 k0_pay34) >>= kk) Q) := by
  iintro H Hk
  iapply (Scf.wp_for_bind frame (wpE (defs₀ (F := F)) 𝒱₀ (c : Thread nD τ) none) Set.univ k0_t1_loop.lb k0_t1_loop.ub k0_t1_loop.st k0_t1_ok (k0_pay35 (F := F))
    (k0_t1_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 o (iota .tc S256x4096 32 [1] iota_S256x4096_d1_w32) k0_pay32 k0_pay33 k0_pay34)
    (fun k acc => iprop(⌜acc = accO o qs ks vs wo k⌝ ∗ tripR (F := F) c wo (slab ks) (slab vs) (slab qs))) ?step) $$ [H]
  case step =>
    intro k acc
    have h8 : k.val < 8 := Nat.lt_of_lt_of_le k.isLt k0_t1_abs.2.1
    iintro ⟨%e, H⟩
    have ht := (trip1 (F := F) c  o wo ks vs qs k acc h8).trans (wp_mono frame (wpE (defs₀ (F := F)) 𝒱₀ (c : Thread nD τ) none) Set.univ (Q' := fun y => iprop(⌜y = accO o qs ks vs wo (k.val + 1)⌝ ∗ tripR (F := F) c wo (slab ks) (slab vs) (slab qs))) (fun y => by
      iintro ⟨%ey, H⟩
      isplitr
      · ipureintro
        rw [ey, e]
        exact (accO_succ o qs ks vs wo k.val h8).symm
      iexact H))
    iapply ht $$ H
  · isplitr
    · ipureintro; rfl
    iexact H
  iintro %acc ⟨%e, H⟩
  rw [e]
  iapply Hk
  iexact H

set_option maxHeartbeats 1000000 in
theorem trip2 (c : Dev nD) (o : BitVec 32) (wo : Vec F S1024x1024 .bf16) (ks vs : Fin 8 → Vec F S1x4096x128 .bf16) (qs : Fin 8 → Vec F S1x256x128 .bf16)
    (k : Fin k0_t2_loop.trips) (acc : FVec F S256x1024 .f32) (h8 : k.val < 8) :
    tripR (F := F) c wo (slab ks) (slab vs) (slab qs)
      ⊢ wp frame (wpE (defs₀ (F := F)) 𝒱₀ (c : Thread nD τ) none) Set.univ
          (k0_t2_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 c o (iota .tc S256x4096 32 [1] iota_S256x4096_d1_w32) k0_pay48 (k0_pay49 o) k acc)
          (fun y => iprop(⌜y = step o acc (qs ⟨k.val, h8⟩) (ks ⟨k.val, h8⟩) (vs ⟨k.val, h8⟩) (wrows wo ⟨k.val, h8⟩)⌝ ∗ tripR (F := F) c wo (slab ks) (slab vs) (slab qs))) := by
  unfold k0_t2_body
  iintro ⟨H1, H2, H3, H4⟩
  sl_exec
  sl_step
  isplitr
  · ipureintro
    rw [trip_q qs ⟨k.val, h8⟩ (k0_off9_eq k), trip_k ks ⟨k.val, h8⟩ (k0_off10_eq k), trip_v vs ⟨k.val, h8⟩ (k0_off10_eq k), trip_w wo ⟨k.val, h8⟩ (k0_off11_eq k)]
    exact step2 ..
  isplitl [H1]; · iexact H1
  isplitl [H2]; · iexact H2
  isplitl [H3]; · iexact H3
  iexact H4

theorem loop2 (c : Dev nD) (o : BitVec 32) (wo : Vec F S1024x1024 .bf16) (ks vs : Fin 8 → Vec F S1x4096x128 .bf16) (qs : Fin 8 → Vec F S1x256x128 .bf16)
    {α : Type} {Q : α → sProp 𝕄} (kk : FVec F S256x1024 .f32 → Prog (TpuEff nD τ sig (Elt F) Λ₀ .tc) α) :
    tripR (F := F) c wo (slab ks) (slab vs) (slab qs)
      ⊢ iprop((tripR (F := F) c wo (slab ks) (slab vs) (slab qs) -∗ WP c (kk (accO o qs ks vs wo 8)) Q)
        -∗ WP c (Scf.Loop.for k0_t2_loop k0_t2_ok (k0_pay50 (F := F)) (k0_t2_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 c o (iota .tc S256x4096 32 [1] iota_S256x4096_d1_w32) k0_pay48 (k0_pay49 o)) >>= kk) Q) := by
  iintro H Hk
  iapply (Scf.wp_for_bind frame (wpE (defs₀ (F := F)) 𝒱₀ (c : Thread nD τ) none) Set.univ k0_t2_loop.lb k0_t2_loop.ub k0_t2_loop.st k0_t2_ok (k0_pay50 (F := F))
    (k0_t2_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 c o (iota .tc S256x4096 32 [1] iota_S256x4096_d1_w32) k0_pay48 (k0_pay49 o))
    (fun k acc => iprop(⌜acc = accO o qs ks vs wo k⌝ ∗ tripR (F := F) c wo (slab ks) (slab vs) (slab qs))) ?step) $$ [H]
  case step =>
    intro k acc
    have h8 : k.val < 8 := Nat.lt_of_lt_of_le k.isLt k0_t2_abs.2.1
    iintro ⟨%e, H⟩
    have ht := (trip2 (F := F) c  o wo ks vs qs k acc h8).trans (wp_mono frame (wpE (defs₀ (F := F)) 𝒱₀ (c : Thread nD τ) none) Set.univ (Q' := fun y => iprop(⌜y = accO o qs ks vs wo (k.val + 1)⌝ ∗ tripR (F := F) c wo (slab ks) (slab vs) (slab qs))) (fun y => by
      iintro ⟨%ey, H⟩
      isplitr
      · ipureintro
        rw [ey, e]
        exact (accO_succ o qs ks vs wo k.val h8).symm
      iexact H))
    iapply ht $$ H
  · isplitr
    · ipureintro; rfl
    iexact H
  iintro %acc ⟨%e, H⟩
  rw [e]
  iapply Hk
  iexact H

set_option maxHeartbeats 1000000 in
theorem trip3 (c : Dev nD) (v4 : BitVec 32) (o : BitVec 32) (wo : Vec F S1024x1024 .bf16) (ks vs : Fin 8 → Vec F S1x4096x128 .bf16) (qs : Fin 8 → Vec F S1x256x128 .bf16)
    (k : Fin k0_t3_loop.trips) (acc : FVec F S256x1024 .f32) (h8 : k.val < 8) :
    tripR (F := F) c wo (slab ks) (slab vs) (slab qs)
      ⊢ wp frame (wpE (defs₀ (F := F)) 𝒱₀ (c : Thread nD τ) none) Set.univ
          (k0_t3_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 c v4 o (k0_pay66 o (iota .tc S256x4096 32 [0] iota_S256x4096_d0_w32) 64#32 k0_pay63 k0_pay64 k0_pay65) (k0_pay67 (iota .tc S256x4096 32 [1] iota_S256x4096_d1_w32)) (k0_pay68 o (iota .tc S256x4096 32 [0] iota_S256x4096_d0_w32) (iota .tc S256x4096 32 [1] iota_S256x4096_d1_w32) 64#32 k0_pay63 k0_pay64 k0_pay65) k acc)
          (fun y => iprop(⌜y = step o acc (qs ⟨k.val, h8⟩) (ks ⟨k.val, h8⟩) (vs ⟨k.val, h8⟩) (wrows wo ⟨k.val, h8⟩)⌝ ∗ tripR (F := F) c wo (slab ks) (slab vs) (slab qs))) := by
  unfold k0_t3_body
  iintro ⟨H1, H2, H3, H4⟩
  sl_exec
  sl_step
  isplitr
  · ipureintro
    rw [trip_q qs ⟨k.val, h8⟩ (k0_off13_eq k), trip_k ks ⟨k.val, h8⟩ (k0_off14_eq k), trip_v vs ⟨k.val, h8⟩ (k0_off14_eq k), trip_w wo ⟨k.val, h8⟩ (k0_off15_eq k)]
    exact step3 ..
  isplitl [H1]; · iexact H1
  isplitl [H2]; · iexact H2
  isplitl [H3]; · iexact H3
  iexact H4

theorem loop3 (c : Dev nD) (v4 : BitVec 32) (o : BitVec 32) (wo : Vec F S1024x1024 .bf16) (ks vs : Fin 8 → Vec F S1x4096x128 .bf16) (qs : Fin 8 → Vec F S1x256x128 .bf16)
    {α : Type} {Q : α → sProp 𝕄} (kk : FVec F S256x1024 .f32 → Prog (TpuEff nD τ sig (Elt F) Λ₀ .tc) α) :
    tripR (F := F) c wo (slab ks) (slab vs) (slab qs)
      ⊢ iprop((tripR (F := F) c wo (slab ks) (slab vs) (slab qs) -∗ WP c (kk (accO o qs ks vs wo 8)) Q)
        -∗ WP c (Scf.Loop.for k0_t3_loop k0_t3_ok (k0_pay69 (F := F)) (k0_t3_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 c v4 o (k0_pay66 o (iota .tc S256x4096 32 [0] iota_S256x4096_d0_w32) 64#32 k0_pay63 k0_pay64 k0_pay65) (k0_pay67 (iota .tc S256x4096 32 [1] iota_S256x4096_d1_w32)) (k0_pay68 o (iota .tc S256x4096 32 [0] iota_S256x4096_d0_w32) (iota .tc S256x4096 32 [1] iota_S256x4096_d1_w32) 64#32 k0_pay63 k0_pay64 k0_pay65)) >>= kk) Q) := by
  iintro H Hk
  iapply (Scf.wp_for_bind frame (wpE (defs₀ (F := F)) 𝒱₀ (c : Thread nD τ) none) Set.univ k0_t3_loop.lb k0_t3_loop.ub k0_t3_loop.st k0_t3_ok (k0_pay69 (F := F))
    (k0_t3_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 c v4 o (k0_pay66 o (iota .tc S256x4096 32 [0] iota_S256x4096_d0_w32) 64#32 k0_pay63 k0_pay64 k0_pay65) (k0_pay67 (iota .tc S256x4096 32 [1] iota_S256x4096_d1_w32)) (k0_pay68 o (iota .tc S256x4096 32 [0] iota_S256x4096_d0_w32) (iota .tc S256x4096 32 [1] iota_S256x4096_d1_w32) 64#32 k0_pay63 k0_pay64 k0_pay65))
    (fun k acc => iprop(⌜acc = accO o qs ks vs wo k⌝ ∗ tripR (F := F) c wo (slab ks) (slab vs) (slab qs))) ?step) $$ [H]
  case step =>
    intro k acc
    have h8 : k.val < 8 := Nat.lt_of_lt_of_le k.isLt k0_t3_abs.2.1
    iintro ⟨%e, H⟩
    have ht := (trip3 (F := F) c v4  o wo ks vs qs k acc h8).trans (wp_mono frame (wpE (defs₀ (F := F)) 𝒱₀ (c : Thread nD τ) none) Set.univ (Q' := fun y => iprop(⌜y = accO o qs ks vs wo (k.val + 1)⌝ ∗ tripR (F := F) c wo (slab ks) (slab vs) (slab qs))) (fun y => by
      iintro ⟨%ey, H⟩
      isplitr
      · ipureintro
        rw [ey, e]
        exact (accO_succ o qs ks vs wo k.val h8).symm
      iexact H))
    iapply ht $$ H
  · isplitr
    · ipureintro; rfl
    iexact H
  iintro %acc ⟨%e, H⟩
  rw [e]
  iapply Hk
  iexact H

set_option maxHeartbeats 1000000 in
theorem trip4 (c : Dev nD) (v2 v4 : BitVec 32) (o : BitVec 32) (wo : Vec F S1024x1024 .bf16) (ks vs : Fin 8 → Vec F S1x4096x128 .bf16) (qs : Fin 8 → Vec F S1x256x128 .bf16)
    (k : Fin k0_t4_loop.trips) (acc : FVec F S256x1024 .f32) (h8 : k.val < 8) :
    tripR (F := F) c wo (slab ks) (slab vs) (slab qs)
      ⊢ wp frame (wpE (defs₀ (F := F)) 𝒱₀ (c : Thread nD τ) none) Set.univ
          (k0_t4_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 c v2 v4 o (k0_pay87 o (iota .tc S256x4096 32 [0] iota_S256x4096_d0_w32) (iota .tc S256x4096 32 [1] iota_S256x4096_d1_w32) 64#32 k0_pay83 k0_pay84 (Scalar.extui (Scalar.cmpi .sgt 64#32 0#32)) 0#32) (k0_pay88 o (iota .tc S256x4096 32 [0] iota_S256x4096_d0_w32) (iota .tc S256x4096 32 [1] iota_S256x4096_d1_w32) 64#32 k0_pay83 k0_pay84 (Scalar.extui (Scalar.cmpi .sgt 64#32 0#32)) 0#32) 0#32 k acc)
          (fun y => iprop(⌜y = step o acc (qs ⟨k.val, h8⟩) (ks ⟨k.val, h8⟩) (vs ⟨k.val, h8⟩) (wrows wo ⟨k.val, h8⟩)⌝ ∗ tripR (F := F) c wo (slab ks) (slab vs) (slab qs))) := by
  unfold k0_t4_body
  iintro ⟨H1, H2, H3, H4⟩
  sl_exec
  sl_step
  isplitr
  · ipureintro
    rw [trip_q qs ⟨k.val, h8⟩ (k0_off16_eq k), trip_k ks ⟨k.val, h8⟩ (k0_off17_eq k), trip_v vs ⟨k.val, h8⟩ (k0_off17_eq k), trip_w wo ⟨k.val, h8⟩ (k0_off18_eq k)]
    exact step4 ..
  isplitl [H1]; · iexact H1
  isplitl [H2]; · iexact H2
  isplitl [H3]; · iexact H3
  iexact H4

theorem loop4 (c : Dev nD) (v2 v4 : BitVec 32) (o : BitVec 32) (wo : Vec F S1024x1024 .bf16) (ks vs : Fin 8 → Vec F S1x4096x128 .bf16) (qs : Fin 8 → Vec F S1x256x128 .bf16)
    {α : Type} {Q : α → sProp 𝕄} (kk : FVec F S256x1024 .f32 → Prog (TpuEff nD τ sig (Elt F) Λ₀ .tc) α) :
    tripR (F := F) c wo (slab ks) (slab vs) (slab qs)
      ⊢ iprop((tripR (F := F) c wo (slab ks) (slab vs) (slab qs) -∗ WP c (kk (accO o qs ks vs wo 8)) Q)
        -∗ WP c (Scf.Loop.for k0_t4_loop k0_t4_ok (k0_pay89 (F := F)) (k0_t4_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 c v2 v4 o (k0_pay87 o (iota .tc S256x4096 32 [0] iota_S256x4096_d0_w32) (iota .tc S256x4096 32 [1] iota_S256x4096_d1_w32) 64#32 k0_pay83 k0_pay84 (Scalar.extui (Scalar.cmpi .sgt 64#32 0#32)) 0#32) (k0_pay88 o (iota .tc S256x4096 32 [0] iota_S256x4096_d0_w32) (iota .tc S256x4096 32 [1] iota_S256x4096_d1_w32) 64#32 k0_pay83 k0_pay84 (Scalar.extui (Scalar.cmpi .sgt 64#32 0#32)) 0#32) 0#32) >>= kk) Q) := by
  iintro H Hk
  iapply (Scf.wp_for_bind frame (wpE (defs₀ (F := F)) 𝒱₀ (c : Thread nD τ) none) Set.univ k0_t4_loop.lb k0_t4_loop.ub k0_t4_loop.st k0_t4_ok (k0_pay89 (F := F))
    (k0_t4_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 c v2 v4 o (k0_pay87 o (iota .tc S256x4096 32 [0] iota_S256x4096_d0_w32) (iota .tc S256x4096 32 [1] iota_S256x4096_d1_w32) 64#32 k0_pay83 k0_pay84 (Scalar.extui (Scalar.cmpi .sgt 64#32 0#32)) 0#32) (k0_pay88 o (iota .tc S256x4096 32 [0] iota_S256x4096_d0_w32) (iota .tc S256x4096 32 [1] iota_S256x4096_d1_w32) 64#32 k0_pay83 k0_pay84 (Scalar.extui (Scalar.cmpi .sgt 64#32 0#32)) 0#32) 0#32)
    (fun k acc => iprop(⌜acc = accO o qs ks vs wo k⌝ ∗ tripR (F := F) c wo (slab ks) (slab vs) (slab qs))) ?step) $$ [H]
  case step =>
    intro k acc
    have h8 : k.val < 8 := Nat.lt_of_lt_of_le k.isLt k0_t4_abs.2.1
    iintro ⟨%e, H⟩
    have ht := (trip4 (F := F) c v2 v4  o wo ks vs qs k acc h8).trans (wp_mono frame (wpE (defs₀ (F := F)) 𝒱₀ (c : Thread nD τ) none) Set.univ (Q' := fun y => iprop(⌜y = accO o qs ks vs wo (k.val + 1)⌝ ∗ tripR (F := F) c wo (slab ks) (slab vs) (slab qs))) (fun y => by
      iintro ⟨%ey, H⟩
      isplitr
      · ipureintro
        rw [ey, e]
        exact (accO_succ o qs ks vs wo k.val h8).symm
      iexact H))
    iapply ht $$ H
  · isplitr
    · ipureintro; rfl
    iexact H
  iintro %acc ⟨%e, H⟩
  rw [e]
  iapply Hk
  iexact H

end Cert.RunKernelIdeal

end
-- ==== Proof.RunKernelIdeal.Comm.lean ====
/-
# The reduction's hops, and the waits

One hop of the reduction: a block of partial sums copied into the next device's reduction buffer. A wait on one of the
ring's cells: what the cell hands over, and its counter at zero, since each cell is used once.
-/
module

public import proofs.«01_k».proof.Proof.RunKernelIdeal.Step

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A slot without its unit axis, as the copies name it. -/
abbrev sq (M : Memref sig .tc .vmem S1x256x1024 .bf16) : Memref sig .tc .vmem S256x1024 .bf16 := M.squeeze S256x1024 squeezes_S1x256x1024_S256x1024

omit [FloatOps F] in
theorem sq_pts (M : Memref sig .tc .vmem S1x256x1024 .bf16) (c : Dev nD) (q : PosShare TreeShare) (f : Buf (Elt F) (M.view.loc (c : Thread nD τ))) :
    ((sq M).view.loc (c : Thread nD τ) ↦[(sq M).view.set]{q} f : sProp 𝕄) = (M.view.loc (c : Thread nD τ) ↦[M.view.set]{q} f) :=
  congrArg (fun S => (M.view.loc (c : Thread nD τ) ↦[S]{q} f : sProp 𝕄)) (View.set_reshape _ _)
omit [FloatOps F] in
theorem sq_owns (M : Memref sig .tc .vmem S1x256x1024 .bf16) (c : Dev nD) (q : PosShare TreeShare) (f : Buf (Elt F) (M.view.loc (c : Thread nD τ))) (w : Vec F S1x256x1024 .bf16)
    (h : M.view.read (Elt F) f = w) :
    ((sq M).view.loc (c : Thread nD τ) ↦[(sq M).view.set]{q} f : sProp 𝕄) ⊢ owns (c : Thread nD τ) M q w := by
  rw [sq_pts]
  unfold owns; iintro H; iexists f; isplitr; · (ipureintro; exact h)
  iexact H
omit [FloatOps F] in
theorem sq_landed (M M' : Memref sig .tc .vmem S1x256x1024 .bf16) (c : Dev nD) (f : M'.view.ty.Contents (Elt F)) (g : Buf (Elt F) (M.view.loc (c : Thread nD τ))) (w : Vec F S1x256x1024 .bf16)
    (h : M'.view.read (Elt F) f = w) :
    ((sq M).view.loc (c : Thread nD τ) ↦[(sq M).view.set]{fullShare} ((sq M).view.write (Elt F) g ((sq M').view.read (Elt F) f) Finset.univ) : sProp 𝕄)
      ⊢ owns (c : Thread nD τ) M fullShare w :=
  sq_owns M c fullShare _ w ((read_copied M'.view M.view squeezes_S1x256x1024_S256x1024.numel_eq f g).trans h)

section

variable (X : Dev nD → Vec F S1x256x1024 .bf16) (RS : Fin 3 → Dev nD → Vec F S1x256x1024 .bf16)

theorem pay_rs_send (c : Dev nD) (s : Fin 3) (iS : Fin 20) (hiS : iS.val = 14 + s.val) :
    (ringRd X RS).payload (dCell c iS) 0 false = iprop(∃ w, ps c (bk (1 + s.val) c) w) := by
  rw [payload_dma, hiS]; fin_cases s <;> rfl
theorem pay_rs_recv (c : Dev nD) (s : Fin 3) (iR : Fin 20) (hiR : iR.val = 17 + s.val) :
    (ringRd X RS).payload (dCell (nxt c) iR) 0 false = rs (nxt c) s (RS s (nxt c)) := by
  rw [payload_dma, hiR]; fin_cases s <;> rfl

/-- One hop between two slots, the payloads given as what they need. -/
theorem wp_hop (K : Dev nD × Fin 13 → ℕ) (M M' : Memref sig .tc .vmem S1x256x1024 .bf16) (c n : Dev nD) (iS iR : Fin 20) (jS jR : Fin 13)
    (hiS : 8 ≤ iS.val) (hiR : 8 ≤ iR.val) (w : Vec F S1x256x1024 .bf16)
    (hPS : (owns (c : Thread nD τ) M fullShare w : sProp 𝕄) ⊢ (ringRd X RS).payload (dCell c iS) 0 false)
    (hPR : (owns (n : Thread nD τ) M' fullShare w : sProp 𝕄) ⊢ (ringRd X RS).payload (dCell n iR) 0 false)
    (hN : (sq M').view.amount (.dma (dm iR)) = N)
    {hsc} {hsrc} {hdst} {hsem} {α : Type} {Q : α → sProp 𝕄} {k : PUnit → Prog (TpuEff nD τ sig (Elt F) Λ₀ .tc) α}
    (O : CellTallies nD τ sig Unit) (W : Waits sig Unit) :
    iprop(cellInv ER (ringRd X RS) (K (c, jS)) (dCell c iS) ∗ cellInv ER (ringRd X RS) (K (n, jR)) (dCell n iR)
        ∗ owns (c : Thread nD τ) M fullShare w ∗ (∃ w, owns (n : Thread nD τ) M' fullShare w)
        ∗ owes (c : Thread nD τ) (O + tallyAt (dCell n iR) () N) W
        ∗ dutyTok ER (dCell c iS) 0 false ∗ reached ER (dCell c iS) 0
        ∗ dutyTok ER (dCell n iR) 0 false ∗ reached ER (dCell n iR) 0)
      ⊢ iprop(((cred (tallyAt (dCell c iS) () N) ∗ owes (c : Thread nD τ) O W) -∗ WP c (k ⟨⟩) Q)
          -∗ WP c (.op (.enqueueDma (sq M) (.remote (Dev.tc n : Thread nD τ) (sq M') (.dma (dm iS)) hsc)
              (.dma (dm iR)) hsrc hdst hsem) k) Q) := by
  iintro ⟨HI1, HI2, Hs, ⟨%w', Hd⟩, HO, Ht1, Hr1, Ht2, Hr2⟩
  unfold owns
  icases Hs with ⟨%f, %hf, Hs⟩
  icases Hd with ⟨%g, %hg, Hd⟩
  ihave Hs := (Entails.of_eq (sq_pts M c fullShare f).symm) $$ Hs
  ihave Hd := (Entails.of_eq (sq_pts M' n fullShare g).symm) $$ Hd
  iapply (Rounds.wp_send_pointsTo 𝒱₀ ER (ringRd X RS) (c : Thread nD τ) none (κ₁ := K (c, jS)) (κ₂ := K (n, jR)) (c' := (n : Thread nD τ))
    (src := sq M) (dst := sq M')
    (r₁ := 0) (r₂ := 0) (d₁ := false) (d₂ := false) (q := fullShare) (fs := f) (fd := g)
    (by rw [duties_dma X RS c iS (by omega)]; exact Finset.mem_singleton_self _) (by rw [duties_dma X RS n iR (by omega)]; exact Finset.mem_singleton_self _)
    () () N hN (amount_dma X RS c iS false) (amount_dma X RS n iR false) O rfl (W := W)
    ((sq_owns M c fullShare f _ hf).trans hPS)
    ((sq_landed M' M n f g w hf).trans hPR))
    $$ [HI1 HI2 Hs Hd HO Ht1 Hr1 Ht2 Hr2]
  isplitl [HI1]; · iexact HI1
  isplitl [HI2]; · iexact HI2
  isplitl [Hs]; · iexact Hs
  isplitl [Hd]; · iexact Hd
  isplitl [HO]; · iexact HO
  isplitl [Ht1]; · iexact Ht1
  isplitl [Hr1]; · iexact Hr1
  isplitl [Ht2]; · iexact Ht2
  iexact Hr2

/-- One hop of the reduction: device `c` copies slot `c - (1 + s)` of its partial sums to slot `s` of the reduction buffer of
    `nxt c`; the slot comes back when the send completes, the receive duty of `nxt c` is paid with the block. -/
theorem wp_send_rs (K : Dev nD × Fin 13 → ℕ) (c n : Dev nD) (hn : n = nxt c) (s : Fin 3) (iS iR : Fin 20) (jS jR : Fin 13)
    (hiS : iS.val = 14 + s.val) (hiR : iR.val = 17 + s.val) {w₀ : Vec F S1x256x1024 .bf16} (hw : w₀ = RS s (nxt c))
    {off off₂ : Fin 3 → ℕ} (hoff : off = ![(bk (1 + s.val) c).val, 0, 0]) (hoff₂ : off₂ = ![s.val, 0, 0])
    {inb : ∀ a, off a + S1x256x1024.size a ≤ S4x256x1024.size a} {inb₂ : ∀ a, off₂ a + S1x256x1024.size a ≤ S3x256x1024.size a}
    {sS sR : DmaSem sig} (hS : sS = dm iS) (hR : sR = dm iR)
    {hsc} {hsrc} {hdst} {hsem} {α : Type} {Q : α → sProp 𝕄} {k : PUnit → Prog (TpuEff nD τ sig (Elt F) Λ₀ .tc) α}
    (O : CellTallies nD τ sig Unit) (W : Waits sig Unit) :
    iprop(cellInv ER (ringRd X RS) (K (c, jS)) (dCell c iS) ∗ cellInv ER (ringRd X RS) (K (nxt c, jR)) (dCell (nxt c) iR)
        ∗ ps c (bk (1 + s.val) c) w₀ ∗ (∃ w, rs (nxt c) s w)
        ∗ owes (c : Thread nD τ) (O + tallyAt (dCell (nxt c) iR) () N) W
        ∗ dutyTok ER (dCell c iS) 0 false ∗ reached ER (dCell c iS) 0
        ∗ dutyTok ER (dCell (nxt c) iR) 0 false ∗ reached ER (dCell (nxt c) iR) 0)
      ⊢ iprop(((cred (tallyAt (dCell c iS) () N) ∗ owes (c : Thread nD τ) O W) -∗ WP c (k ⟨⟩) Q)
          -∗ WP c (.op (.enqueueDma ((pM.slice (Rect.unit (s := S4x256x1024) off S1x256x1024.size inb) (fun _ => rfl)).squeeze S256x1024 squeezes_S1x256x1024_S256x1024)
              (.remote (Dev.tc n : Thread nD τ) ((rM.slice (Rect.unit (s := S3x256x1024) off₂ S1x256x1024.size inb₂) (fun _ => rfl)).squeeze S256x1024 squeezes_S1x256x1024_S256x1024) (.dma sS) hsc)
              (.dma sR) hsrc hdst hsem) k) Q) := by
  subst hn hoff hoff₂ hS hR hw
  iapply (wp_hop X RS K (pS (bk (1 + s.val) c)) (rS s) c (nxt c) iS iR jS jR (by omega) (by omega) (RS s (nxt c))
    (by rw [pay_rs_send X RS c s iS hiS]; exact Laws.exists_intro (Φ := fun w => ps c (bk (1 + s.val) c) w) (RS s (nxt c)))
    (by rw [pay_rs_recv X RS c s iR hiR]; exact Entails.of_eq rfl) rfl O W)

/-- A wait on one of the ring's send and receive cells, owing what is left to pay: the cell's payload, and its counter at
    zero. -/
theorem wp_wait_dma (K : Dev nD × Fin 13 → ℕ) (c : Dev nD) (n : Fin 20) (hn : 8 ≤ n.val) (j : Fin 13) (kk : ℕ)
    (hlv : ∀ i < kk, lv ((c : Thread nD τ), .dma (dm n)) () < lvT i) {P : sProp 𝕄} (hP : dmaPay X RS c n.val = P) (W : Waits sig Unit)
    {sm : DmaSem sig} (hs : sm = dm n) {src dst : Memref sig .tc .vmem S256x1024 .bf16} (hN : dst.view.dmaCredit = N)
    {h1 h2} {α : Type} {Q : α → sProp 𝕄} {k : PUnit → Prog (TpuEff nD τ sig (Elt F) Λ₀ .tc) α} :
    iprop(levAts L lv ∗ cellInv ER (ringRd X RS) (K (c, j)) (dCell c n) ∗ cred (tallyAt (dCell c n) () N) ∗ owes (c : Thread nD τ) (owe c kk) W ∗ atPos ER (dCell c n) 0 ∅ 0)
      ⊢ iprop(((∃ W', owes (c : Thread nD τ) (owe c kk) W') -∗ semVal (dCell c n) 0 -∗ P -∗ WP c (k ⟨⟩) Q)
          -∗ WP c (.op (.waitDma2 sm src dst h1 h2) k) Q) := by
  subst hs hP
  iintro ⟨#HL, #HI, HC, HO, Hat⟩ Hk
  iapply (Rounds.wp_wait_rest_token 𝒱₀ ER (ringRd X RS) (c : Thread nD τ) none (κ := K (c, j))
      (wpE_waitDma2_eq 𝒱₀ (c : Thread nD τ) none Set.univ) (Set.mem_univ _) () (O := owe c kk) (W := W) (R := 0) (m := 0) (T := ∅)
      (by rw [Nat.zero_add, expect_dma X RS c n hn, hN])) $$ [HC HO Hat]
  · isplitr; · iexact HI
    isplitl [HC]; · rw [hN]; iexact HC
    isplitl [HO]; · iexact HO
    isplitr; · iapply (mayWait (F := F) c (.dma (dm n)) kk hlv); iexact HL
    iexact Hat
  iintro ⟨HO, Hat, -, Hpay⟩
  ihave Hpay := (Entails.of_eq (rest_dma X RS c n hn)) $$ Hpay
  imod (Rounds.cell_close ER (ringRd X RS) (Set.mem_univ (K (c, j))) (fun h => h) (R := 0 + 1) (duties_later X RS (dCell c n))) $$ [Hat] with Hz
  · isplitr; · iexact HI
    iexact Hat
  ispecialize Hk $$ [HO]
  · iexists _; iexact HO
  ispecialize Hk $$ Hz
  iapply Hk
  iexact Hpay

end

omit [FloatOps F] in
/-- A slot of the gather buffer at the full share is its two halves. -/
theorem xs_halves (c : Dev nD) (k : Fin 4) (w : Vec F S1x256x1024 .bf16) :
    (xs c k fullShare w : sProp 𝕄) ⊣⊢ iprop(xs c k fullShare.left w ∗ xs c k fullShare.right w) :=
  owns_share (c : Thread nD τ) (xS k) (PosShare.mem_left_op_right _) w

/-! Loads and stores of the slots, by the slots' names. -/

theorem wp_load_xs (c : Dev nD) (b : Fin 4) (q : PosShare TreeShare) (w : Vec F S1x256x1024 .bf16) {off : Fin 3 → ℕ} (h : off = ![b.val, 0, 0])
    {inb : ∀ a, off a + S1x256x1024.size a ≤ S4x256x1024.size a} {hl : (xM : Memref sig .tc .vmem S4x256x1024 .bf16).view.LoadsAt (Rect.unit (s := S4x256x1024) off S1x256x1024.size inb).toLoadRect}
    {α : Type} {k : Vec F S1x256x1024 .bf16 → Prog (TpuEff nD τ sig (Elt F) Λ₀ .tc) α} {Q : α → sProp 𝕄} :
    (xs c b q w : sProp 𝕄) ⊢ iprop((xs c b q w -∗ WP c (k w) Q) -∗ WP c (.op (.load xM (Rect.unit (s := S4x256x1024) off S1x256x1024.size inb).toLoadRect hl) k) Q) := by
  unfold xs
  exact wp_load_slot c xM h (inb' := inb4 b) (w := w)

theorem wp_load_ps (c : Dev nD) (b : Fin 4) (w : Vec F S1x256x1024 .bf16) {off : Fin 3 → ℕ} (h : off = ![b.val, 0, 0])
    {inb : ∀ a, off a + S1x256x1024.size a ≤ S4x256x1024.size a} {hl : (pM : Memref sig .tc .vmem S4x256x1024 .bf16).view.LoadsAt (Rect.unit (s := S4x256x1024) off S1x256x1024.size inb).toLoadRect}
    {α : Type} {k : Vec F S1x256x1024 .bf16 → Prog (TpuEff nD τ sig (Elt F) Λ₀ .tc) α} {Q : α → sProp 𝕄} :
    (ps c b w : sProp 𝕄) ⊢ iprop((ps c b w -∗ WP c (k w) Q) -∗ WP c (.op (.load pM (Rect.unit (s := S4x256x1024) off S1x256x1024.size inb).toLoadRect hl) k) Q) := by
  unfold ps
  exact wp_load_slot c pM h (inb' := inb4 b) (w := w)

theorem wp_load_rs (c : Dev nD) (b : Fin 3) (w : Vec F S1x256x1024 .bf16) {off : Fin 3 → ℕ} (h : off = ![b.val, 0, 0])
    {inb : ∀ a, off a + S1x256x1024.size a ≤ S3x256x1024.size a} {hl : (rM : Memref sig .tc .vmem S3x256x1024 .bf16).view.LoadsAt (Rect.unit (s := S3x256x1024) off S1x256x1024.size inb).toLoadRect}
    {α : Type} {k : Vec F S1x256x1024 .bf16 → Prog (TpuEff nD τ sig (Elt F) Λ₀ .tc) α} {Q : α → sProp 𝕄} :
    (rs c b w : sProp 𝕄) ⊢ iprop((rs c b w -∗ WP c (k w) Q) -∗ WP c (.op (.load rM (Rect.unit (s := S3x256x1024) off S1x256x1024.size inb).toLoadRect hl) k) Q) := by
  unfold rs
  exact wp_load_slot c rM h (inb' := inb3 b) (w := w)

theorem wp_store_ps (c : Dev nD) (b : Fin 4) (v w : Vec F S1x256x1024 .bf16) {off : Fin 3 → ℕ} (h : off = ![b.val, 0, 0])
    {inb : ∀ a, off a + S1x256x1024.size a ≤ S4x256x1024.size a} {hx : (pM.access (Rect.unit (s := S4x256x1024) off S1x256x1024.size inb)).Stores Finset.univ} {hm}
    {α : Type} {k : PUnit → Prog (TpuEff nD τ sig (Elt F) Λ₀ .tc) α} {Q : α → sProp 𝕄} :
    (ps c b v : sProp 𝕄) ⊢ iprop((ps c b w -∗ WP c (k ⟨⟩) Q) -∗ WP c (.op (.store pM (Rect.unit (s := S4x256x1024) off S1x256x1024.size inb) w Finset.univ hx hm) k) Q) := by
  unfold ps
  exact wp_store_slot c pM h (inb' := inb4 b) (v := v) (w := w)

/-! Where the copies' offsets are. -/

theorem off_bk1 (c : Dev nD) (r : ℕ) {off : Fin 3 → ℕ} (h : off = ![((c.val + 8) - r) % 4, 0, 0]) (hr : r ≤ 8): (off : Fin 3 → ℕ) = ![(bk r c).val, 0, 0] := by
  subst h
  have : ((c.val + 8) - r) % 4 = (bk r c).val := by
    have := c.isLt
    show _ = (c.val + (8 - r)) % 4
    congr 1; omega
  rw [this]

theorem off_bk2 (c : Dev nD) (r : ℕ) {off : Fin 3 → ℕ} (h : off = ![((c.val + 7) - r) % 4, 0, 0]) (hr : r ≤ 7): (off : Fin 3 → ℕ) = ![(bk (1 + r) c).val, 0, 0] := by
  subst h
  have : ((c.val + 7) - r) % 4 = (bk (1 + r) c).val := by
    have := c.isLt
    show _ = (c.val + (8 - (1 + r))) % 4
    congr 1; omega
  rw [this]

theorem off4_bk (c : Dev nD) (r : Fin 4) : k0_off4 c (BitVec.ofNat 32 r.val) = ![(bk r.val c).val, 0, 0] :=
  off_bk1 c r.val (k0_off4_eq c r) (by omega)
theorem off8_bk (c : Dev nD) (r : Fin 2) : k0_off8 c (BitVec.ofNat 32 (1 + r.val)) = ![(bk (1 + r.val) c).val, 0, 0] :=
  off_bk2 c r.val (k0_off8_eq c r) (by omega)
theorem off12_bk (c : Dev nD) (r : Fin 3) : k0_off12 c (BitVec.ofNat 32 r.val) = ![(bk (1 + r.val) c).val, 0, 0] :=
  off_bk2 c r.val (k0_off12_eq c r) (by omega)

end Cert.RunKernelIdeal

end
-- ==== Proof.RunKernelIdeal.Chunk0.lean ====
/-
# The first chunk

The device's own block: its queries, the loop over the heads, the product stored to its slot of the partial sums; then the
first hop's two waits.
-/
module

public import proofs.«01_k».proof.Proof.RunKernelIdeal.Comm

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What a chunk's arithmetic reads and writes besides its slots: the two weight matrices, the kept keys and values, the
    queries. -/
def work (c : Dev nD) (wq wo : Vec F S1024x1024 .bf16) (ks vs : Fin 8 → Vec F S1x4096x128 .bf16) : sProp 𝕄 :=
  iprop((((Memref.whole cc0_stg1_0).view.loc (c : Thread nD τ) ↦{fullShare} wq) ∗ ((Memref.whole cc0_stg2_0).view.loc (c : Thread nD τ) ↦{fullShare} wo)
    ∗ ((Memref.whole cc0_scratch3).view.loc (c : Thread nD τ) ↦{fullShare} slab ks) ∗ ((Memref.whole cc0_scratch4).view.loc (c : Thread nD τ) ↦{fullShare} slab vs)
    ∗ ∃ qb : cc0_scratch6.ty.Contents (Elt F), ((Memref.whole cc0_scratch6).view.loc (c : Thread nD τ) ↦{fullShare} qb)))

/-- What a wait on one of the ring's cells needs. -/
def toWait (X : Dev nD → Vec F S1x256x1024 .bf16) (RS : Fin 3 → Dev nD → Vec F S1x256x1024 .bf16) (K : Dev nD × Fin 13 → ℕ) (c : Dev nD) (n : Fin 20) (j : Fin 13) : sProp 𝕄 :=
  iprop(cellInv ER (ringRd X RS) (K (c, j)) (dCell c n) ∗ cred (tallyAt (dCell c n) () N) ∗ atPos ER (dCell c n) 0 ∅ 0)

/-- The number of the block `r` places behind, as the kernel computes it from the device's own. -/
abbrev wordB (v2 r : BitVec 32) : BitVec 32 := Scalar.remsi (Scalar.addi (Scalar.subi v2 r) 8#32) 4#32

/-- What a later hop of the gather needs besides its source. -/
def agTok (X : Dev nD → Vec F S1x256x1024 .bf16) (RS : Fin 3 → Dev nD → Vec F S1x256x1024 .bf16) (K : Dev nD × Fin 13 → ℕ) (c : Dev nD)
    (h : Fin 3) (iS iR : Fin 20) (jS jR : Fin 13) : sProp 𝕄 := iprop(
  cellInv ER (ringRd X RS) (K (c, jS)) (dCell c iS) ∗ cellInv ER (ringRd X RS) (K (nxt c, jR)) (dCell (nxt c) iR)
  ∗ (∃ w, xs (nxt c) (bk h.val c) fullShare w)
  ∗ dutyTok ER (dCell c iS) 0 false ∗ reached ER (dCell c iS) 0
  ∗ dutyTok ER (dCell (nxt c) iR) 0 false ∗ reached ER (dCell (nxt c) iR) 0)

/-- What a hop of the reduction needs besides its source. -/
def rsTok (X : Dev nD → Vec F S1x256x1024 .bf16) (RS : Fin 3 → Dev nD → Vec F S1x256x1024 .bf16) (K : Dev nD × Fin 13 → ℕ) (c : Dev nD)
    (s : Fin 3) (iS iR : Fin 20) (jS jR : Fin 13) : sProp 𝕄 := iprop(
  cellInv ER (ringRd X RS) (K (c, jS)) (dCell c iS) ∗ cellInv ER (ringRd X RS) (K (nxt c, jR)) (dCell (nxt c) iR)
  ∗ (∃ w, rs (nxt c) s w)
  ∗ dutyTok ER (dCell c iS) 0 false ∗ reached ER (dCell c iS) 0
  ∗ dutyTok ER (dCell (nxt c) iR) 0 false ∗ reached ER (dCell (nxt c) iR) 0)

/-- What a wait of its own send needs, before the send gives the credit. -/
def toWaitS (X : Dev nD → Vec F S1x256x1024 .bf16) (RS : Fin 3 → Dev nD → Vec F S1x256x1024 .bf16) (K : Dev nD × Fin 13 → ℕ) (c : Dev nD) (n : Fin 20) (j : Fin 13) : sProp 𝕄 :=
  iprop(cellInv ER (ringRd X RS) (K (c, j)) (dCell c n) ∗ atPos ER (dCell c n) 0 ∅ 0)

omit [FloatOps F] in
theorem rd6 (g : cc0_scratch6.ty.Contents (Elt F)) : (Memref.whole cc0_scratch6).view.read (Elt F) g = g := rfl

/-- The first chunk. -/
theorem chunk0 (X : Dev nD → Vec F S1x256x1024 .bf16) (RS : Fin 3 → Dev nD → Vec F S1x256x1024 .bf16) (K : Dev nD × Fin 13 → ℕ) (c : Dev nD) (v2 v4 : BitVec 32) (W : Waits sig Unit)
    (x : Vec F S1x256x1024 .bf16) (wq wo : Vec F S1024x1024 .bf16) (ks vs : Fin 8 → Vec F S1x4096x128 .bf16) (v377 : FVec F S4096x128 .bf16) (fv : cc0_scratch4.ty.Contents (Elt F))
    (hv : ∀ f', f' = (Memref.whole cc0_scratch4).view.writes (Elt F) fv [⟨Rect.unit (s := S8x4096x128) ![7, 0, 0] S1x4096x128.size inb_S8x4096x128_S1x4096x128_7_0_0, k0_pay21 v377⟩] → f' = slab vs)
    {α : Type} {Q : α → sProp 𝕄} (k : PUnit → Prog (TpuEff nD τ sig (Elt F) Λ₀ .tc) α) :
    iprop(levAts L lv ∗ owes (c : Thread nD τ) (owe c 5) W
        ∗ ((Memref.whole cc0_stg1_0).view.loc (c : Thread nD τ) ↦{fullShare} wq) ∗ ((Memref.whole cc0_stg2_0).view.loc (c : Thread nD τ) ↦{fullShare} wo)
        ∗ ((Memref.whole cc0_scratch3).view.loc (c : Thread nD τ) ↦{fullShare} slab ks) ∗ ((Memref.whole cc0_scratch4).view.loc (c : Thread nD τ) ↦{fullShare} fv)
        ∗ (∃ qb : cc0_scratch6.ty.Contents (Elt F), ((Memref.whole cc0_scratch6).view.loc (c : Thread nD τ) ↦{fullShare} qb))
        ∗ xs c (bk 0 c) fullShare.right x ∗ (∃ p, ps c (bk 0 c) p) ∗ toWaitS X RS K c 8 1 ∗ cred (tallyAt (dCell c 8) () N) ∗ toWait X RS K c 11 4)
      ⊢ iprop((∀ W' : Waits sig Unit, (owes (c : Thread nD τ) (owe c 5) W' ∗ work c wq wo ks vs
            ∗ xs c (bk 0 c) fullShare.right x ∗ ps c (bk 0 c) (prodO (wordB v2 0#32) x wq wo ks vs)
            ∗ semVal (dCell c 8) 0 ∗ xs c (bk 0 c) fullShare.left (X (bk 0 c))
            ∗ semVal (dCell c 11) 0 ∗ xs c (bk 1 c) fullShare (X (bk 1 c))) -∗ WP c (k ⟨⟩) Q)
        -∗ WP c (P15 (F := F) c v2 v377 >>= fun r => P16 (F := F) r.2.1 r.2.2 >>= fun s => P17 (F := F) r.1 s.1 s.2.1 s.2.2.1 s.2.2.2 >>= fun v489 => P18 (F := F) c v2 v4 v489 >>= k) Q) := by
  unfold toWaitS toWait P15 P16 P17 P18 WP
  rw [k0_part15_eq_skeleton, k0_part16_eq_skeleton, k0_part17_eq_skeleton, k0_part18_eq_skeleton]
  unfold k0_part15_skel k0_part16_skel k0_part17_skel k0_part18_skel
  iintro ⟨#HL, HO, Hwq, Hwo, Hkb, Hvb, ⟨%qb, Hq⟩, Hx, ⟨%p, Hp⟩, ⟨#HI8, Hat8⟩, HC8, ⟨#HI11, HC11, Hat11⟩⟩ Hcont
  sl_exec
  iapply (wp_load_xs c (bk 0 c) fullShare.right x (off4_bk c 0)) $$ [Hx]
  · iexact Hx
  iintro Hx
  unfold WP
  sl_exec
  have hr : View.readAt (Elt F) (Memref.whole cc0_stg1_0).view (Rect.unit (s := S1024x1024) ![0, 0] S1024x1024.size inb_S1024x1024_S1024x1024_0_0).toLoadRect wq = wq :=
    Memref.readAt_unit_zero (Elt F) cc0_stg1_0 (by funext a; fin_cases a <;> rfl) _ wq
  rw [hr]
  have eq := writes8 (i0 := inb_S8x256x128_S1x256x128_0_0_0) (i1 := inb_S8x256x128_S1x256x128_1_0_0) (i2 := inb_S8x256x128_S1x256x128_2_0_0) (i3 := inb_S8x256x128_S1x256x128_3_0_0) (i4 := inb_S8x256x128_S1x256x128_4_0_0) (i5 := inb_S8x256x128_S1x256x128_5_0_0) (i6 := inb_S8x256x128_S1x256x128_6_0_0) (i7 := inb_S8x256x128_S1x256x128_7_0_0) (Memref.whole cc0_scratch6).view qb (qsl x wq) rfl rfl rfl rfl rfl rfl rfl rfl
  rw [rd6] at eq
  rw [Prog.bind_assoc]
  iapply (loop1 c (wordB v2 0#32) wo ks vs (qsl x wq)) $$ [Hwo Hkb Hvb Hq]
  · isplitl [Hwo]; · iexact Hwo
    isplitl [Hkb]; · iexact Hkb
    isplitl [Hvb]
    · iapply (pts_of_eq (ℓ := (Memref.whole cc0_scratch4).view.loc (c : Thread nD τ)) (q := fullShare) (g := slab vs) (hv _ rfl))
      iexact Hvb
    iapply (pts_of_eq (ℓ := (Memref.whole cc0_scratch6).view.loc (c : Thread nD τ)) (q := fullShare) (g := slab (qsl x wq)) eq)
    iexact Hq
  iintro ⟨Hwo, Hkb, Hvb, Hq⟩
  iapply (wp_load_ps c (bk 0 c) p (off4_bk c 0)) $$ Hp
  iintro Hp
  iapply (wp_store_ps c (bk 0 c) p (prodO (wordB v2 0#32) x wq wo ks vs) (off4_bk c 0)) $$ Hp
  iintro Hp
  iapply (wp_wait_dma X RS K c 8 (by decide) 1 5 (show ∀ j < 5, lvD 8 < lvT j by decide) (P := xs c (bk 0 c) fullShare.left (X (bk 0 c))) rfl W rfl rfl) $$ [HC8 HO Hat8]
  · isplitr; · iexact HL
    isplitr; · iexact HI8
    isplitl [HC8]; · iexact HC8
    isplitl [HO]; · iexact HO
    iexact Hat8
  iintro ⟨%W1, HO⟩ Hz8 Hxl
  iapply (wp_wait_dma X RS K c 11 (by decide) 4 5 (show ∀ j < 5, lvD 11 < lvT j by decide) (P := xs c (bk 1 c) fullShare (X (bk 1 c))) rfl W1 rfl rfl) $$ [HC11 HO Hat11]
  · isplitr; · iexact HL
    isplitr; · iexact HI11
    isplitl [HC11]; · iexact HC11
    isplitl [HO]; · iexact HO
    iexact Hat11
  iintro ⟨%W2, HO⟩ Hz11 Hx1
  unfold WP
  simp only [Prog.pure_eq_ret, Prog.bind]
  iapply Hcont
  isplitl [HO]; · iexact HO
  isplitl [Hwq Hwo Hkb Hvb Hq]
  · unfold work
    isplitl [Hwq]; · iexact Hwq
    isplitl [Hwo]; · iexact Hwo
    isplitl [Hkb]; · iexact Hkb
    isplitl [Hvb]; · iexact Hvb
    iexists _; iexact Hq
  isplitl [Hx]; · iexact Hx
  isplitl [Hp]; · iexact Hp
  isplitl [Hz8]; · iexact Hz8
  isplitl [Hxl]; · iexact Hxl
  isplitl [Hz11]; · iexact Hz11
  iexact Hx1

end Cert.RunKernelIdeal

end
-- ==== Proof.RunKernelIdeal.Split.lean ====
/-
# Buffers cut into slots

A scratch buffer of `n` matrices is, as an owned resource, its `n` slots: the whole buffer at some contents gives every
slot at some contents, and back.
-/
module

public import proofs.«01_k».proof.Proof.RunKernelIdeal.Slab

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Slots

variable {n a b : ℕ} {e : EltTy}

/-- Slot `k` of a buffer of `n` matrices. -/
abbrev slotR (inb : ∀ k : Fin n, ∀ d, (![k.val, 0, 0] : Fin 3 → ℕ) d + (⟨3, ![1, a, b]⟩ : Shape).size d ≤ (⟨3, ![n, a, b]⟩ : Shape).size d) (k : Fin n) :
    Rect ⟨3, ![n, a, b]⟩ := Rect.unit (s := ⟨3, ![n, a, b]⟩) ![k.val, 0, 0] (⟨3, ![1, a, b]⟩ : Shape).size (inb k)

variable (inb : ∀ k : Fin n, ∀ d, (![k.val, 0, 0] : Fin 3 → ℕ) d + (⟨3, ![1, a, b]⟩ : Shape).size d ≤ (⟨3, ![n, a, b]⟩ : Shape).size d)

/-- A place lies in slot `k` exactly when its first coordinate is `k`. -/
theorem mem_slot (k : Fin n) (y : (⟨3, ![n, a, b]⟩ : Shape).Idx) : y ∈ (slotR inb k).set ↔ (y 0).val = k.val := by
  rw [Rect.mem_set_unit]
  constructor
  · intro h
    have h0 := h 0
    have h1 : k.val ≤ (y 0).val := h0.1
    have h2 : (y 0).val < k.val + 1 := h0.2
    omega
  · intro h d
    match d with
    | 0 => exact ⟨le_of_eq h.symm, by show (y 0).val < k.val + 1; omega⟩
    | 1 => exact ⟨Nat.zero_le _, by show (y 1).val < 0 + a; have h : (y 1).val < a := (y 1).isLt; omega⟩
    | 2 => exact ⟨Nat.zero_le _, by show (y 2).val < 0 + b; have h : (y 2).val < b := (y 2).isLt; omega⟩

theorem slot_disjoint (k k' : Fin n) (h : k ≠ k') : Disjoint (slotR inb k).set (slotR inb k').set :=
  Finset.disjoint_left.mpr fun y h1 h2 => h (Fin.ext (((mem_slot inb k y).mp h1).symm.trans ((mem_slot inb k' y).mp h2)))

theorem slot_cover : (Finset.univ : Finset (Fin n)).biUnion (fun k => (slotR inb k).set) = Finset.univ := by
  refine Finset.eq_univ_of_forall fun y => Finset.mem_biUnion.mpr ⟨⟨(y 0).val, (y 0).isLt⟩, Finset.mem_univ _, ?_⟩
  exact (mem_slot inb _ y).mpr rfl

/-- Any contents of the slots are the slots of one buffer. -/
theorem slots_one (w : Fin n → (⟨3, ![1, a, b]⟩ : Shape).Idx → Elt F e) :
    ∃ X : (⟨3, ![n, a, b]⟩ : Shape).Idx → Elt F e, ∀ k, (fun j => X ((slotR inb k).emb j)) = w k := by
  have hinj : Function.Injective (fun p : Fin n × (⟨3, ![1, a, b]⟩ : Shape).Idx => (slotR inb p.1).emb p.2) := by
    rintro ⟨k, j⟩ ⟨k', j'⟩ h
    have hm : ∀ k j, (slotR inb k).emb j ∈ (slotR inb k).set := fun k j =>
      (slotR inb k).map_emb_univ ▸ Finset.mem_map_of_mem _ (Finset.mem_univ j)
    have h' : (slotR inb k).emb j = (slotR inb k').emb j' := h
    have hk : k = k' := by
      have h1 := (mem_slot inb k _).mp (hm k j)
      have h2 := (mem_slot inb k' _).mp (hm k' j')
      rw [h'] at h1
      exact Fin.ext (h1.symm.trans h2)
    subst hk
    exact Prod.ext rfl ((slotR inb k).emb.injective h')
  refine ⟨Function.extend (fun p : Fin n × (⟨3, ![1, a, b]⟩ : Shape).Idx => (slotR inb p.1).emb p.2) (fun p => w p.1 p.2) (fun _ => Classical.arbitrary _), fun k => funext fun j => ?_⟩
  exact hinj.extend_apply _ _ (k, j)

omit [FloatOps F] in
/-- A whole buffer gives its slots, -/
theorem slots_split (c : Dev nD) {sp : Space} (M : Memref sig .tc sp ⟨3, ![n, a, b]⟩ e) :
    (iprop(∃ X, owns (c : Thread nD τ) M fullShare X) : sProp 𝕄)
      ⊢ bigSep Finset.univ fun k : Fin n => iprop(∃ w : (⟨3, ![1, a, b]⟩ : Shape).Idx → Elt F e, owns (c : Thread nD τ) (M.slice (slotR inb k) (fun _ => rfl)) fullShare w) := by
  iintro ⟨%X, H⟩
  ihave H := (owns_rects (Val := Elt F) (c : Thread nD τ) M fullShare (slotR inb) (fun _ _ => rfl) (slot_disjoint inb) (slot_cover inb) X) $$ H
  iapply (show (bigSep Finset.univ fun k : Fin n => owns (c : Thread nD τ) (M.slice (slotR inb k) (fun _ => rfl)) fullShare (fun j => X ((slotR inb k).emb j)) : sProp 𝕄)
      ⊢ bigSep Finset.univ fun k : Fin n => iprop(∃ w : (⟨3, ![1, a, b]⟩ : Shape).Idx → Elt F e, owns (c : Thread nD τ) (M.slice (slotR inb k) (fun _ => rfl)) fullShare w) from
    bigSep_mono (fun k _ => (Laws.exists_intro (Φ := fun w => owns (c : Thread nD τ) (M.slice (slotR inb k) (fun _ => rfl)) fullShare w) _))) $$ H

/-- and the slots give it back. -/
theorem slots_join (c : Dev nD) {sp : Space} (M : Memref sig .tc sp ⟨3, ![n, a, b]⟩ e) :
    (bigSep Finset.univ fun k : Fin n => iprop(∃ w : (⟨3, ![1, a, b]⟩ : Shape).Idx → Elt F e, owns (c : Thread nD τ) (M.slice (slotR inb k) (fun _ => rfl)) fullShare w))
      ⊢ (iprop(∃ X, owns (c : Thread nD τ) M fullShare X) : sProp 𝕄) := by
  iintro H
  ihave H := (BI.bigSep_exists_pi (M := 𝕄) Finset.univ (fun (k : Fin n) (w : (⟨3, ![1, a, b]⟩ : Shape).Idx → Elt F e) =>
    owns (c : Thread nD τ) (M.slice (slotR inb k) (fun _ => rfl)) fullShare w)) $$ H
  icases H with ⟨%w, H⟩
  obtain ⟨X, hX⟩ := slots_one (F := F) inb w
  iexists X
  iapply (owns_of_rects (Val := Elt F) (c : Thread nD τ) M fullShare (slotR inb) (fun _ _ => rfl) (slot_disjoint inb) (slot_cover inb) X)
  iapply (show (bigSep Finset.univ fun k : Fin n => owns (c : Thread nD τ) (M.slice (slotR inb k) (fun _ => rfl)) fullShare (w k) : sProp 𝕄)
      ⊢ bigSep Finset.univ fun k : Fin n => owns (c : Thread nD τ) (M.slice (slotR inb k) (fun _ => rfl)) fullShare (fun j => X ((slotR inb k).emb j)) from
    Entails.of_eq (bigSep_congr fun k _ => congrArg (owns (c : Thread nD τ) (M.slice (slotR inb k) (fun _ => rfl)) fullShare) (hX k).symm)) $$ H

end Slots

omit [FloatOps F] in
theorem sep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem sep_fin3 (Φ : Fin 3 → sProp 𝕄) : bigSep Finset.univ Φ = iprop(Φ 0 ∗ Φ 1 ∗ Φ 2) := bigSep_univ_eq_bigSepL [0, 1, 2] (by decide) (by decide) Φ

set_option backward.proofsInPublic true in
/-- The devices counted back from `c`. -/
def back (c : Dev nD) : Fin 4 ≃ Fin 4 := ⟨fun i => bk i.val c, fun d => ⟨(c.val + 4 - d.val) % 4, Nat.mod_lt _ (by decide)⟩, by revert c; decide, by revert c; decide⟩

omit [FloatOps F] in
/-- The four slots, counted back from `c`. -/
theorem sep_back (c : Dev nD) (Φ : Fin 4 → sProp 𝕄) : bigSep Finset.univ Φ = iprop(Φ (bk 0 c) ∗ Φ (bk 1 c) ∗ Φ (bk 2 c) ∗ Φ (bk 3 c)) := by
  rw [bigSep_univ_equiv (back c) Φ, sep_fin4]
  rfl

omit [FloatOps F] in
/-- A buffer at some contents, as an owned memref. -/
theorem whole_owns (c : Dev nD) (b : Ref sig .tc) :
    (iprop(∃ f : b.ty.Contents (Elt F), (c : Thread nD τ).loc b ↦{fullShare} f) : sProp 𝕄) = iprop(∃ X, owns (c : Thread nD τ) (Memref.whole b) fullShare X) := by
  refine BI.equiv_iff.mp ⟨?_, ?_⟩
  · show iprop(∃ f : b.ty.Contents (Elt F), (c : Thread nD τ).loc b ↦{fullShare} f) ⊢ iprop(∃ X, owns (c : Thread nD τ) (Memref.whole b) fullShare X)
    iintro ⟨%f, H⟩
    iexists f
    rw [owns_whole_eq]
    iexists f
    isplitr; · (ipureintro; rfl)
    iexact H
  · show iprop(∃ X, owns (c : Thread nD τ) (Memref.whole b) fullShare X) ⊢ iprop(∃ f : b.ty.Contents (Elt F), (c : Thread nD τ).loc b ↦{fullShare} f)
    simp only [owns_whole_eq]
    iintro ⟨%X, %f, -, H⟩
    iexists f
    iexact H

/-- The gather buffer is its four slots, -/
theorem gather_slots (c : Dev nD) : (iprop(∃ f : cc0_scratch0.ty.Contents (Elt F), (c : Thread nD τ).loc cc0_scratch0 ↦{fullShare} f) : sProp 𝕄)
    = iprop((∃ w, xs c (bk 0 c) fullShare w) ∗ (∃ w, xs c (bk 1 c) fullShare w) ∗ (∃ w, xs c (bk 2 c) fullShare w) ∗ (∃ w, xs c (bk 3 c) fullShare w)) := by
  rw [whole_owns, ← sep_back c (fun k => iprop(∃ w, xs c k fullShare w))]
  exact BI.equiv_iff.mp ⟨slots_split inb4 c xM, slots_join inb4 c xM⟩
/-- so is the buffer of partial sums, -/
theorem partial_slots (c : Dev nD) : (iprop(∃ f : cc0_scratch1.ty.Contents (Elt F), (c : Thread nD τ).loc cc0_scratch1 ↦{fullShare} f) : sProp 𝕄)
    = iprop((∃ w, ps c (bk 0 c) w) ∗ (∃ w, ps c (bk 1 c) w) ∗ (∃ w, ps c (bk 2 c) w) ∗ (∃ w, ps c (bk 3 c) w)) := by
  rw [whole_owns, ← sep_back c (fun k => iprop(∃ w, ps c k w))]
  exact BI.equiv_iff.mp ⟨slots_split inb4 c pM, slots_join inb4 c pM⟩
/-- the reduction buffer its three slots, -/
theorem reduce_slots (c : Dev nD) : (iprop(∃ f : cc0_scratch2.ty.Contents (Elt F), (c : Thread nD τ).loc cc0_scratch2 ↦{fullShare} f) : sProp 𝕄)
    = iprop((∃ w, rs c 0 w) ∗ (∃ w, rs c 1 w) ∗ (∃ w, rs c 2 w)) := by
  rw [whole_owns, ← sep_fin3 (fun k => iprop(∃ w, rs c k w))]
  exact BI.equiv_iff.mp ⟨slots_split inb3 c rM, slots_join inb3 c rM⟩

end Cert.RunKernelIdeal

end
-- ==== Proof.RunKernelIdeal.Ends.lean ====
/-
# The first and the last piece of the kernel's body

The first piece signals both neighbours and waits for both, which hands the device the slots of the next device that it
will write; then it puts its own block in its slot of the gather buffer. The last piece waits for the last reduction hop
and adds what arrived to the device's own partial sum.
-/
module

public import proofs.«01_k».proof.Proof.RunKernelIdeal.Chunk0
public import proofs.«01_k».proof.Proof.RunKernelIdeal.Split

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
/-- The buffer the copies of keys and values land in is its four slots. -/
theorem owns_some (c : Dev nD) {sp : Space} {s : Shape} {e : EltTy} (M : Memref sig .tc sp s e) :
    (iprop(∃ w, owns (c : Thread nD τ) M fullShare w) : sProp 𝕄) = iprop(∃ f : M.view.ty.Contents (Elt F), M.view.loc (c : Thread nD τ) ↦[M.view.set]{fullShare} f) := by
  unfold owns
  refine BI.equiv_iff.mp ⟨?_, ?_⟩
  · show iprop(∃ w, ∃ f, ⌜M.view.read (Elt F) f = w⌝ ∗ (M.view.loc (c : Thread nD τ) ↦[M.view.set]{fullShare} f)) ⊢ iprop(∃ f : M.view.ty.Contents (Elt F), M.view.loc (c : Thread nD τ) ↦[M.view.set]{fullShare} f)
    iintro ⟨%w, %f, -, H⟩
    iexists f
    iexact H
  · show iprop(∃ f : M.view.ty.Contents (Elt F), M.view.loc (c : Thread nD τ) ↦[M.view.set]{fullShare} f) ⊢ iprop(∃ w, ∃ f, ⌜M.view.read (Elt F) f = w⌝ ∗ (M.view.loc (c : Thread nD τ) ↦[M.view.set]{fullShare} f))
    iintro ⟨%f, H⟩
    iexists _
    iexists f
    isplitr; · (ipureintro; rfl)
    iexact H

theorem inbStg (k : Fin 4) : ∀ a, (![k.val, 0, 0] : Fin 3 → Nat) a + S1x4096x128.size a ≤ S4x4096x128.size a := by revert k; decide

theorem stage_slots (c : Dev nD) : (iprop(∃ f : cc0_scratch5.ty.Contents (Elt F), (c : Thread nD τ).loc cc0_scratch5 ↦{fullShare} f) : sProp 𝕄) = stgs (F := F) c := by
  rw [whole_owns]
  refine (BI.equiv_iff.mp ⟨slots_split inbStg c (Memref.whole cc0_scratch5 : Memref sig .tc _ ⟨3, ![4, 4096, 128]⟩ .f32), slots_join inbStg c (Memref.whole cc0_scratch5 : Memref sig .tc _ ⟨3, ![4, 4096, 128]⟩ .f32)⟩).trans ?_
  rw [sep_fin4, owns_some, owns_some, owns_some, owns_some]
  rfl

/-- Overwriting a slot of the gather buffer. -/
theorem wp_store_xs (c : Dev nD) (b : Fin 4) (v w : Vec F S1x256x1024 .bf16) {off : Fin 3 → ℕ} (h : off = ![b.val, 0, 0])
    {inb : ∀ a, off a + S1x256x1024.size a ≤ S4x256x1024.size a} {hx : (xM.access (Rect.unit (s := S4x256x1024) off S1x256x1024.size inb)).Stores Finset.univ} {hm}
    {α : Type} {k : PUnit → Prog (TpuEff nD τ sig (Elt F) Λ₀ .tc) α} {Q : α → sProp 𝕄} :
    (xs c b fullShare v : sProp 𝕄) ⊢ iprop((xs c b fullShare w -∗ WP c (k ⟨⟩) Q) -∗ WP c (.op (.store xM (Rect.unit (s := S4x256x1024) off S1x256x1024.size inb) w Finset.univ hx hm) k) Q) := by
  unfold xs
  exact wp_store_slot c xM h (inb' := inb4 b) (v := v) (w := w)

/-- The device's number, as the kernel computes it. -/
abbrev v2w (c : Dev nD) : BitVec 32 := Scalar.remsi (Scalar.divsi (Dev.word c) 1#32) 4#32
/-- The next device's number. -/
abbrev v4w (c : Dev nD) : BitVec 32 := Scalar.remsi (Scalar.addi (v2w c) 1#32) 4#32

theorem bk_prv0 (c : Dev nD) : bk 0 (prv c) = bk 1 c := by revert c; decide
theorem bk_prv1 (c : Dev nD) : bk 1 (prv c) = bk 2 c := by revert c; decide
theorem bk_prv2 (c : Dev nD) : bk 2 (prv c) = bk 3 c := by revert c; decide

omit [FloatOps F] in
/-- What `c` hands the device before it. -/
theorem barPay_prv (c : Dev nD) : (barPay (prv c) : sProp 𝕄) = iprop((∃ w, xs c (bk 1 c) fullShare w) ∗ (∃ w, xs c (bk 2 c) fullShare w) ∗ (∃ w, xs c (bk 3 c) fullShare w)
    ∗ (∃ w, rs c 0 w) ∗ (∃ w, rs c 1 w) ∗ (∃ w, rs c 2 w)) := by
  unfold barPay; rw [nxt_prv, bk_prv0, bk_prv1, bk_prv2]

/-- What the handshake needs. -/
def barTok (X : Dev nD → Vec F S1x256x1024 .bf16) (RS : Fin 3 → Dev nD → Vec F S1x256x1024 .bf16) (K : Dev nD × Fin 13 → ℕ) (c : Dev nD) : sProp 𝕄 := iprop(
  cellInv ER (ringRd X RS) (K (c, 0)) (barCell c) ∗ cellInv ER (ringRd X RS) (K (prv c, 0)) (barCell (prv c)) ∗ cellInv ER (ringRd X RS) (K (nxt c, 0)) (barCell (nxt c))
  ∗ atPos ER (barCell c) 0 ∅ 0
  ∗ dutyTok ER (barCell (prv c)) 0 true ∗ reached ER (barCell (prv c)) 0
  ∗ dutyTok ER (barCell (nxt c)) 0 false ∗ reached ER (barCell (nxt c)) 0)

/-- The first piece. -/
theorem piece1 (X : Dev nD → Vec F S1x256x1024 .bf16) (RS : Fin 3 → Dev nD → Vec F S1x256x1024 .bf16) (K : Dev nD × Fin 13 → ℕ) (c : Dev nD) (W : Waits sig Unit)
    (x : Vec F S1x256x1024 .bf16)
    {α : Type} {Q : α → sProp 𝕄} (k : (Σ' (_ : Dev nD) (_ : BitVec 32), BitVec 32) → Prog (TpuEff nD τ sig (Elt F) Λ₀ .tc) α) :
    iprop(levAts L lv ∗ owes (c : Thread nD τ) (owe c 8) W ∗ barTok X RS K c ∗ cred (tallyAt (barCell c) () 2)
        ∗ ((Memref.whole cc0_stg0_0).view.loc (c : Thread nD τ) ↦{fullShare} x)
        ∗ (∃ w, xs c (bk 0 c) fullShare w) ∗ (∃ w, xs c (bk 1 c) fullShare w) ∗ (∃ w, xs c (bk 2 c) fullShare w) ∗ (∃ w, xs c (bk 3 c) fullShare w)
        ∗ (∃ w, rs c 0 w) ∗ (∃ w, rs c 1 w) ∗ (∃ w, rs c 2 w))
      ⊢ iprop((∀ W' : Waits sig Unit, (owes (c : Thread nD τ) (owe c 6) W' ∗ semVal (barCell c) 0
            ∗ ((Memref.whole cc0_stg0_0).view.loc (c : Thread nD τ) ↦{fullShare} x)
            ∗ xs c (bk 0 c) fullShare (k0_pay2 x)
            ∗ (∃ w, xs (nxt c) (bk 0 c) fullShare w) ∗ (∃ w, xs (nxt c) (bk 1 c) fullShare w) ∗ (∃ w, xs (nxt c) (bk 2 c) fullShare w)
            ∗ (∃ w, rs (nxt c) 0 w) ∗ (∃ w, rs (nxt c) 1 w) ∗ (∃ w, rs (nxt c) 2 w)) -∗ WP c (k ⟨c, v2w c, v4w c⟩) Q)
        -∗ WP c (P1 (F := F) >>= k) Q) := by
  unfold P1 barTok WP
  rw [k0_part1_eq_skeleton]
  unfold k0_part1_skel
  simp only [semSignalWord, semWaitWord, Prog.lift, Prog.bind_op, Prog.bind_ret, Prog.pure_eq_ret, wp_deviceId]
  iintro ⟨#HL, HO, ⟨#HI, #HIp, #HIn, Hat, Htp, #Hrp, Htn, #Hrn⟩, HC, Hx, ⟨%w0, Hx0⟩, Hx1, Hx2, Hx3, Hr0, Hr1, Hr2⟩ Hcont
  simp only [dev1_eq c, dev2_eq c]
  iapply (Rounds.wp_signal 𝒱₀ ER (ringRd X RS) (c : Thread nD τ) none (dst := (prv c : Thread nD τ)) (κ := K (prv c, 0))
      (d := true) (by rw [duties_bar]; exact Finset.mem_univ _) ((amount_bar X RS (prv c) true).trans (by decide)) () (owe c 7) rfl)
    $$ [HO Htp Hx1 Hx2 Hx3 Hr0 Hr1 Hr2]
  · isplitr; · iexact HIp
    isplitl [HO]; · iexact HO
    isplitl [Htp]; · iexact Htp
    isplitl [Hx1 Hx2 Hx3 Hr0 Hr1 Hr2]
    · rw [payload_bar_true, barPay_prv]
      isplitl [Hx1]; · iexact Hx1
      isplitl [Hx2]; · iexact Hx2
      isplitl [Hx3]; · iexact Hx3
      isplitl [Hr0]; · iexact Hr0
      isplitl [Hr1]; · iexact Hr1
      iexact Hr2
    iexact Hrp
  iintro HO
  iapply (Rounds.wp_signal 𝒱₀ ER (ringRd X RS) (c : Thread nD τ) none (dst := (nxt c : Thread nD τ)) (κ := K (nxt c, 0))
      (d := false) (by rw [duties_bar]; exact Finset.mem_univ _) ((amount_bar X RS (nxt c) false).trans (by decide)) () (owe c 6) rfl)
    $$ [HO Htn]
  · isplitr; · iexact HIn
    isplitl [HO]; · iexact HO
    isplitl [Htn]; · iexact Htn
    isplitr; · rw [payload_bar_false]; iempintro
    iexact Hrn
  iintro HO
  iapply (Rounds.wp_wait_rest_token 𝒱₀ ER (ringRd X RS) (c : Thread nD τ) none (κ := K (c, 0))
      (wpE_semWait_eq 𝒱₀ (c : Thread nD τ) none Set.univ) (Set.mem_univ _) () (O := owe c 6) (W := W) (R := 0) (m := 0) (T := ∅)
      (by rw [expect_bar]; decide)) $$ [HC HO Hat]
  · isplitr; · iexact HI
    isplitl [HC]; · iexact HC
    isplitl [HO]; · iexact HO
    isplitr; · iapply (mayWait (F := F) c (.reg barS) 6 (show ∀ j < 6, 1 < lvT j by decide)); iexact HL
    iexact Hat
  iintro ⟨HO, Hat, -, Hpay⟩
  ihave Hp := (Entails.of_eq (rest_bar X RS c)) $$ Hpay
  unfold barPay
  icases Hp with ⟨-, Hn0, Hn1, Hn2, Hm0, Hm1, Hm2⟩
  imod (Rounds.cell_close ER (ringRd X RS) (Set.mem_univ (K (c, 0))) (fun h => h) (R := 0 + 1) (duties_later X RS (barCell c))) $$ [Hat] with Hz
  · isplitr; · iexact HI
    iexact Hat
  iapply (wp_load 𝒱₀ (c : Thread nD τ) none Set.univ (m := Memref.whole cc0_stg0_0) (Finset.subset_univ _)) $$ Hx
  iintro Hx
  have hr : View.readAt (Elt F) (Memref.whole cc0_stg0_0).view (Rect.unit (s := S1x256x1024) ![0, 0, 0] S1x256x1024.size inb_S1x256x1024_S1x256x1024_0_0_0).toLoadRect x = x :=
    Memref.readAt_unit_zero (Elt F) cc0_stg0_0 (by funext a; fin_cases a <;> rfl) _ x
  rw [hr]
  iapply (wp_load_xs c (bk 0 c) fullShare w0 ((k0_off1_eq c).trans (off_bk0 c))) $$ Hx0
  iintro Hx0
  iapply (wp_store_xs c (bk 0 c) w0 (k0_pay2 x) ((k0_off1_eq c).trans (off_bk0 c))) $$ Hx0
  iintro Hx0
  iapply Hcont
  isplitl [HO]; · iexact HO
  isplitl [Hz]; · iexact Hz
  isplitl [Hx]; · iexact Hx
  isplitl [Hx0]; · iexact Hx0
  isplitl [Hn0]; · iexact Hn0
  isplitl [Hn1]; · iexact Hn1
  isplitl [Hn2]; · iexact Hn2
  isplitl [Hm0]; · iexact Hm0
  isplitl [Hm1]; · iexact Hm1
  iexact Hm2

end Cert.RunKernelIdeal

end
-- ==== Proof.RunKernelIdeal.Chunk1.lean ====
/-
# The second chunk

The block of rows one place behind the device: its product, between the hops that run meanwhile.
-/
module

public import proofs.«01_k».proof.Proof.RunKernelIdeal.Chunk0

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The second chunk: the second hop leaves, the block received first is multiplied out, the second hop's waits, and the
    third hop leaves. -/
theorem chunk1 (X : Dev nD → Vec F S1x256x1024 .bf16) (RS : Fin 3 → Dev nD → Vec F S1x256x1024 .bf16) (K : Dev nD × Fin 13 → ℕ) (c : Dev nD) (v2 v4 : BitVec 32) (W : Waits sig Unit)
    (wq wo : Vec F S1024x1024 .bf16) (ks vs : Fin 8 → Vec F S1x4096x128 .bf16)
    {α : Type} {Q : α → sProp 𝕄} (k : (Σ' (_ : BitVec 32), BitVec 32) → Prog (TpuEff nD τ sig (Elt F) Λ₀ .tc) α) :
    iprop(levAts L lv ∗ owes (c : Thread nD τ) (owe c 5) W ∗ work c wq wo ks vs
        ∗ xs c (bk 1 c) fullShare (X (bk 1 c)) ∗ (∃ p, ps c (bk 1 c) p)
        ∗ agTok X RS K c 1 9 12 2 5 ∗ toWaitS X RS K c 9 2 ∗ toWait X RS K c 12 5 ∗ agTok X RS K c 2 10 13 3 6)
      ⊢ iprop((∀ (r : Σ' (_ : BitVec 32), BitVec 32) (W' : Waits sig Unit), (owes (c : Thread nD τ) (owe c 3) W' ∗ work c wq wo ks vs
            ∗ xs c (bk 1 c) fullShare (X (bk 1 c)) ∗ ps c (bk 1 c) (prodO (wordB v2 1#32) (X (bk 1 c)) wq wo ks vs)
            ∗ semVal (dCell c 9) 0 ∗ semVal (dCell c 12) 0 ∗ xs c (bk 2 c) fullShare.right (X (bk 2 c))
            ∗ cred (tallyAt (dCell c 10) () N)) -∗ WP c (k r) Q)
        -∗ WP c (P19 (F := F) c v2 >>= fun r => P20 (F := F) r.1 r.2 >>= fun s => P21 (F := F) c r.1 s.1 s.2.1 s.2.2 >>= fun v633 => P22 (F := F) c v2 v4 v633 >>= k) Q) := by
  unfold toWaitS toWait agTok work P19 P20 P21 P22 WP
  rw [k0_part19_eq_skeleton, k0_part20_eq_skeleton, k0_part21_eq_skeleton, k0_part22_eq_skeleton]
  unfold k0_part19_skel k0_part20_skel k0_part21_skel k0_part22_skel
  iintro ⟨#HL, HO, ⟨Hwq, Hwo, Hkb, Hvb, ⟨%qb, Hq⟩⟩, Hxf, ⟨%p, Hp⟩, ⟨Hg1, Hg2, Hd, Ht1, Hr1, Ht2, Hr2⟩, ⟨#HI9, Hat9⟩, ⟨#HI12, HC12, Hat12⟩, ⟨Jg1, Jg2, Jd, Jt1, Jr1, Jt2, Jr2⟩⟩ Hcont
  ihave Hxf := (xs_halves c (bk 1 c) (X (bk 1 c))).1 $$ Hxf
  icases Hxf with ⟨Hxl, Hx⟩
  sl_exec
  iapply (wp_send_ag X RS K c ⟨k0_dev4 c, k0_dev4_lt c⟩ (dev4_eq c) 1 9 12 2 5 rfl rfl (off := k0_off8 c 1#32) (inb := k0_off8_inb c 0) (off8_bk c 0) rfl rfl (owe c 4) W)
    $$ [Hg1 Hg2 Hxl Hd HO Ht1 Hr1 Ht2 Hr2]
  · isplitl [Hg1]; · iexact Hg1
    isplitl [Hg2]; · iexact Hg2
    isplitl [Hxl]; · iexact Hxl
    isplitl [Hd]; · iexact Hd
    isplitl [HO]; · iexact HO
    isplitl [Ht1]; · iexact Ht1
    isplitl [Hr1]; · iexact Hr1
    isplitl [Ht2]; · iexact Ht2
    iexact Hr2
  iintro ⟨HC9, HO⟩
  unfold WP
  sl_exec
  iapply (wp_load_xs c (bk 1 c) fullShare.right (X (bk 1 c)) (off4_bk c 1)) $$ Hx
  iintro Hx
  unfold WP
  sl_exec
  have hr : View.readAt (Elt F) (Memref.whole cc0_stg1_0).view (Rect.unit (s := S1024x1024) ![0, 0] S1024x1024.size inb_S1024x1024_S1024x1024_0_0).toLoadRect wq = wq :=
    Memref.readAt_unit_zero (Elt F) cc0_stg1_0 (by funext a; fin_cases a <;> rfl) _ wq
  rw [hr]
  have eq := writes8 (i0 := inb_S8x256x128_S1x256x128_0_0_0) (i1 := inb_S8x256x128_S1x256x128_1_0_0) (i2 := inb_S8x256x128_S1x256x128_2_0_0) (i3 := inb_S8x256x128_S1x256x128_3_0_0) (i4 := inb_S8x256x128_S1x256x128_4_0_0) (i5 := inb_S8x256x128_S1x256x128_5_0_0) (i6 := inb_S8x256x128_S1x256x128_6_0_0) (i7 := inb_S8x256x128_S1x256x128_7_0_0) (w0 := k0_pay40 (X (bk 1 c)) wq) (w1 := k0_pay41 (X (bk 1 c)) wq) (w2 := k0_pay42 (X (bk 1 c)) wq) (w3 := k0_pay43 (X (bk 1 c)) wq) (w4 := k0_pay44 (X (bk 1 c)) wq) (w5 := k0_pay45 (k0_pay39 (X (bk 1 c)) wq)) (w6 := k0_pay46 (k0_pay39 (X (bk 1 c)) wq)) (w7 := k0_pay47 (k0_pay39 (X (bk 1 c)) wq)) (Memref.whole cc0_scratch6).view qb (qsl (X (bk 1 c)) wq) rfl rfl rfl rfl rfl rfl rfl rfl
  rw [rd6] at eq
  rw [Prog.bind_assoc]
  iapply (loop2 c  (wordB v2 1#32) wo ks vs (qsl (X (bk 1 c)) wq)) $$ [Hwo Hkb Hvb Hq]
  · isplitl [Hwo]; · iexact Hwo
    isplitl [Hkb]; · iexact Hkb
    isplitl [Hvb]; · iexact Hvb
    iapply (pts_of_eq (ℓ := (Memref.whole cc0_scratch6).view.loc (c : Thread nD τ)) (q := fullShare) (g := slab (qsl (X (bk 1 c)) wq)) eq)
    iexact Hq
  iintro ⟨Hwo, Hkb, Hvb, Hq⟩
  have hpr : k0_pay52 (accO (wordB v2 1#32) (qsl (X (bk 1 c)) wq) ks vs wo 8) = prodO (wordB v2 1#32) (X (bk 1 c)) wq wo ks vs := rfl
  iapply (wp_load_ps c (bk 1 c) p (off4_bk c 1)) $$ Hp
  iintro Hp
  rw [hpr]
  iapply (wp_store_ps c (bk 1 c) p (prodO (wordB v2 1#32) (X (bk 1 c)) wq wo ks vs) (off4_bk c 1)) $$ Hp
  iintro Hp
  iapply (wp_wait_dma X RS K c 9 (by decide) 2 4 (show ∀ j < 4, lvD 9 < lvT j by decide) (P := xs c (bk 1 c) fullShare.left (X (bk 1 c))) rfl W rfl rfl) $$ [HC9 HO Hat9]
  · isplitr; · iexact HL
    isplitr; · iexact HI9
    isplitl [HC9]; · iexact HC9
    isplitl [HO]; · iexact HO
    iexact Hat9
  iintro ⟨%W1, HO⟩ Hz9 Hxl
  iapply (wp_wait_dma X RS K c 12 (by decide) 5 4 (show ∀ j < 4, lvD 12 < lvT j by decide) (P := xs c (bk 2 c) fullShare (X (bk 2 c))) rfl W1 rfl rfl) $$ [HC12 HO Hat12]
  · isplitr; · iexact HL
    isplitr; · iexact HI12
    isplitl [HC12]; · iexact HC12
    isplitl [HO]; · iexact HO
    iexact Hat12
  iintro ⟨%W2, HO⟩ Hz12 Hy
  ihave Hx := (xs_halves c (bk 1 c) (X (bk 1 c))).2 $$ [Hxl Hx]
  · isplitl [Hxl]; · iexact Hxl
    iexact Hx
  ihave Hy := (xs_halves c (bk 2 c) (X (bk 2 c))).1 $$ Hy
  icases Hy with ⟨Hxl, Hy⟩
  iapply (wp_send_ag X RS K c ⟨k0_dev5 c, k0_dev5_lt c⟩ (dev5_eq c) 2 10 13 3 6 rfl rfl (off := k0_off8 c 2#32) (inb := k0_off8_inb c 1) (off8_bk c 1) rfl rfl (owe c 3) W2)
    $$ [Jg1 Jg2 Hxl Jd HO Jt1 Jr1 Jt2 Jr2]
  · isplitl [Jg1]; · iexact Jg1
    isplitl [Jg2]; · iexact Jg2
    isplitl [Hxl]; · iexact Hxl
    isplitl [Jd]; · iexact Jd
    isplitl [HO]; · iexact HO
    isplitl [Jt1]; · iexact Jt1
    isplitl [Jr1]; · iexact Jr1
    isplitl [Jt2]; · iexact Jt2
    iexact Jr2
  iintro ⟨HC10, HO⟩
  unfold WP
  simp only [Prog.pure_eq_ret, Prog.bind]
  iapply Hcont
  isplitl [HO]; · iexact HO
  isplitl [Hwq Hwo Hkb Hvb Hq]
  · isplitl [Hwq]; · iexact Hwq
    isplitl [Hwo]; · iexact Hwo
    isplitl [Hkb]; · iexact Hkb
    isplitl [Hvb]; · iexact Hvb
    iexists _; iexact Hq
  isplitl [Hx]; · iexact Hx
  isplitl [Hp]; · iexact Hp
  isplitl [Hz9]; · iexact Hz9
  isplitl [Hz12]; · iexact Hz12
  isplitl [Hy]; · iexact Hy
  iexact HC10

end Cert.RunKernelIdeal

end
-- ==== Proof.RunKernelIdeal.Chunk2.lean ====
/-
# The third chunk

The block of rows two places behind the device: its product, between the hops that run meanwhile.
-/
module

public import proofs.«01_k».proof.Proof.RunKernelIdeal.Chunk0

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The third chunk: the reduction's first hop leaves with the second chunk's product; the block received second is multiplied
    out; the waits of the gather's last hop and of the reduction's first; the product received is added. -/
theorem chunk2 (X : Dev nD → Vec F S1x256x1024 .bf16) (RS : Fin 3 → Dev nD → Vec F S1x256x1024 .bf16) (K : Dev nD × Fin 13 → ℕ) (c : Dev nD) (v2 v4 : BitVec 32) (W : Waits sig Unit)
    (wq wo : Vec F S1024x1024 .bf16) (ks vs : Fin 8 → Vec F S1x4096x128 .bf16) (v661 c0 : BitVec 32)
    (hw : (prodO (wordB v2 1#32) (X (bk 1 c)) wq wo ks vs) = RS 0 (nxt c))
    {α : Type} {Q : α → sProp 𝕄} (k : PUnit → Prog (TpuEff nD τ sig (Elt F) Λ₀ .tc) α) :
    iprop(levAts L lv ∗ owes (c : Thread nD τ) (owe c 3) W ∗ work c wq wo ks vs
        ∗ xs c (bk 2 c) fullShare.right (X (bk 2 c)) ∗ ps c (bk 1 c) (prodO (wordB v2 1#32) (X (bk 1 c)) wq wo ks vs) ∗ (∃ p, ps c (bk 2 c) p)
        ∗ rsTok X RS K c 0 14 17 7 10 ∗ toWaitS X RS K c 10 3 ∗ cred (tallyAt (dCell c 10) () N) ∗ toWait X RS K c 13 6 ∗ toWaitS X RS K c 14 7 ∗ toWait X RS K c 17 10)
      ⊢ iprop((∀ (W' : Waits sig Unit), (owes (c : Thread nD τ) (owe c 2) W' ∗ work c wq wo ks vs
            ∗ xs c (bk 2 c) fullShare (X (bk 2 c)) ∗ (∃ w, ps c (bk 1 c) w) ∗ ps c (bk 2 c) (k0_pay72 (prodO (wordB v2 2#32) (X (bk 2 c)) wq wo ks vs) (RS 0 c))
            ∗ semVal (dCell c 10) 0 ∗ semVal (dCell c 13) 0 ∗ semVal (dCell c 14) 0 ∗ semVal (dCell c 17) 0
            ∗ xs c (bk 3 c) fullShare (X (bk 3 c)) ∗ rs c 0 (RS 0 c)) -∗ WP c (k ⟨⟩) Q)
        -∗ WP c (P23 (F := F) c v2 v4 v661 c0 >>= fun r => P24 (F := F) r.2.1 r.2.2 >>= fun s => P25 (F := F) r.1 s.1 s.2.1 s.2.2.1 s.2.2.2.1 s.2.2.2.2.1 s.2.2.2.2.2 >>= fun t => P26 (F := F) c v4 r.1 t.1 t.2.1 t.2.2 >>= fun _ => P27 (F := F) c v2 v4 >>= k) Q) := by
  unfold toWaitS toWait rsTok work P23 P24 P25 P26 P27 WP
  rw [k0_part23_eq_skeleton, k0_part24_eq_skeleton, k0_part25_eq_skeleton, k0_part26_eq_skeleton, k0_part27_eq_skeleton]
  unfold k0_part23_skel k0_part24_skel k0_part25_skel k0_part26_skel k0_part27_skel
  iintro ⟨#HL, HO, ⟨Hwq, Hwo, Hkb, Hvb, ⟨%qb, Hq⟩⟩, Hx, Hps, ⟨%p, Hp⟩, ⟨Hg1, Hg2, Hd, Ht1, Hr1, Ht2, Hr2⟩, ⟨#HI10, Hat10⟩, HC10, ⟨#HI13, HC13, Hat13⟩, ⟨#HI14, Hat14⟩, ⟨#HI17, HC17, Hat17⟩⟩ Hcont
  sl_exec
  iapply (wp_send_rs X RS K c ⟨k0_dev6 c, k0_dev6_lt c⟩ (dev6_eq c) 0 14 17 7 10 rfl rfl hw (off := k0_off12 c 0#32) (inb := k0_off12_inb c 0) (off12_bk c 0) (off₂ := ![0, 0, 0]) (inb₂ := inb_S3x256x1024_S1x256x1024_0_0_0) rfl rfl rfl (owe c 2) W)
    $$ [Hg1 Hg2 Hps Hd HO Ht1 Hr1 Ht2 Hr2]
  · isplitl [Hg1]; · iexact Hg1
    isplitl [Hg2]; · iexact Hg2
    isplitl [Hps]; · iexact Hps
    isplitl [Hd]; · iexact Hd
    isplitl [HO]; · iexact HO
    isplitl [Ht1]; · iexact Ht1
    isplitl [Hr1]; · iexact Hr1
    isplitl [Ht2]; · iexact Ht2
    iexact Hr2
  iintro ⟨HC14, HO⟩
  unfold WP
  sl_exec
  iapply (wp_load_xs c (bk 2 c) fullShare.right (X (bk 2 c)) (off4_bk c 2)) $$ Hx
  iintro Hx
  unfold WP
  sl_exec
  have hr : View.readAt (Elt F) (Memref.whole cc0_stg1_0).view (Rect.unit (s := S1024x1024) ![0, 0] S1024x1024.size inb_S1024x1024_S1024x1024_0_0).toLoadRect wq = wq :=
    Memref.readAt_unit_zero (Elt F) cc0_stg1_0 (by funext a; fin_cases a <;> rfl) _ wq
  rw [hr]
  have eq := writes8 (i0 := inb_S8x256x128_S1x256x128_0_0_0) (i1 := inb_S8x256x128_S1x256x128_1_0_0) (i2 := inb_S8x256x128_S1x256x128_2_0_0) (i3 := inb_S8x256x128_S1x256x128_3_0_0) (i4 := inb_S8x256x128_S1x256x128_4_0_0) (i5 := inb_S8x256x128_S1x256x128_5_0_0) (i6 := inb_S8x256x128_S1x256x128_6_0_0) (i7 := inb_S8x256x128_S1x256x128_7_0_0) (w0 := k0_pay54 (X (bk 2 c)) wq) (w1 := k0_pay55 (X (bk 2 c)) wq) (w2 := k0_pay57 (k0_pay56 (X (bk 2 c)) wq)) (w3 := k0_pay58 (k0_pay53 (X (bk 2 c)) wq)) (w4 := k0_pay59 (k0_pay53 (X (bk 2 c)) wq)) (w5 := k0_pay60 (k0_pay53 (X (bk 2 c)) wq)) (w6 := k0_pay61 (k0_pay53 (X (bk 2 c)) wq)) (w7 := k0_pay62 (k0_pay53 (X (bk 2 c)) wq)) (Memref.whole cc0_scratch6).view qb (qsl (X (bk 2 c)) wq) rfl rfl rfl rfl rfl rfl rfl rfl
  rw [rd6] at eq
  rw [Prog.bind_assoc]
  iapply (loop3 c v4 (wordB v2 2#32) wo ks vs (qsl (X (bk 2 c)) wq)) $$ [Hwo Hkb Hvb Hq]
  · isplitl [Hwo]; · iexact Hwo
    isplitl [Hkb]; · iexact Hkb
    isplitl [Hvb]; · iexact Hvb
    iapply (pts_of_eq (ℓ := (Memref.whole cc0_scratch6).view.loc (c : Thread nD τ)) (q := fullShare) (g := slab (qsl (X (bk 2 c)) wq)) eq)
    iexact Hq
  iintro ⟨Hwo, Hkb, Hvb, Hq⟩
  have hpr : k0_pay71 (accO (wordB v2 2#32) (qsl (X (bk 2 c)) wq) ks vs wo 8) = prodO (wordB v2 2#32) (X (bk 2 c)) wq wo ks vs := rfl
  iapply (wp_load_ps c (bk 2 c) p (off4_bk c 2)) $$ Hp
  iintro Hp
  rw [hpr]
  iapply (wp_store_ps c (bk 2 c) p (prodO (wordB v2 2#32) (X (bk 2 c)) wq wo ks vs) (off4_bk c 2)) $$ Hp
  iintro Hp
  iapply (wp_wait_dma X RS K c 10 (by decide) 3 2 (show ∀ j < 2, lvD 10 < lvT j by decide) (P := xs c (bk 2 c) fullShare.left (X (bk 2 c))) rfl W rfl rfl) $$ [HC10 HO Hat10]
  · isplitr; · iexact HL
    isplitr; · iexact HI10
    isplitl [HC10]; · iexact HC10
    isplitl [HO]; · iexact HO
    iexact Hat10
  iintro ⟨%W1, HO⟩ Hz10 Hxl
  iapply (wp_wait_dma X RS K c 13 (by decide) 6 2 (show ∀ j < 2, lvD 13 < lvT j by decide) (P := xs c (bk 3 c) fullShare (X (bk 3 c))) rfl W1 rfl rfl) $$ [HC13 HO Hat13]
  · isplitr; · iexact HL
    isplitr; · iexact HI13
    isplitl [HC13]; · iexact HC13
    isplitl [HO]; · iexact HO
    iexact Hat13
  iintro ⟨%W2, HO⟩ Hz13 Hy
  iapply (wp_wait_dma X RS K c 14 (by decide) 7 2 (show ∀ j < 2, lvD 14 < lvT j by decide) (P := iprop(∃ w, ps c (bk 1 c) w)) rfl W2 rfl rfl) $$ [HC14 HO Hat14]
  · isplitr; · iexact HL
    isplitr; · iexact HI14
    isplitl [HC14]; · iexact HC14
    isplitl [HO]; · iexact HO
    iexact Hat14
  iintro ⟨%W3, HO⟩ Hz14 Hps
  iapply (wp_wait_dma X RS K c 17 (by decide) 10 2 (show ∀ j < 2, lvD 17 < lvT j by decide) (P := rs c 0 (RS 0 c)) rfl W3 rfl rfl) $$ [HC17 HO Hat17]
  · isplitr; · iexact HL
    isplitr; · iexact HI17
    isplitl [HC17]; · iexact HC17
    isplitl [HO]; · iexact HO
    iexact Hat17
  iintro ⟨%W4, HO⟩ Hz17 Hrs
  iapply (wp_load_ps c (bk 2 c) (prodO (wordB v2 2#32) (X (bk 2 c)) wq wo ks vs) (off4_bk c 2)) $$ Hp
  iintro Hp
  iapply (wp_load_rs c 0 (RS 0 c) rfl) $$ Hrs
  iintro Hrs
  iapply (wp_load_ps c (bk 2 c) (prodO (wordB v2 2#32) (X (bk 2 c)) wq wo ks vs) (off4_bk c 2)) $$ Hp
  iintro Hp
  iapply (wp_store_ps c (bk 2 c) (prodO (wordB v2 2#32) (X (bk 2 c)) wq wo ks vs) (k0_pay72 (prodO (wordB v2 2#32) (X (bk 2 c)) wq wo ks vs) (RS 0 c)) (off4_bk c 2)) $$ Hp
  iintro Hp
  ihave Hx := (xs_halves c (bk 2 c) (X (bk 2 c))).2 $$ [Hxl Hx]
  · isplitl [Hxl]; · iexact Hxl
    iexact Hx
  unfold WP
  simp only [Prog.pure_eq_ret, Prog.bind]
  iapply Hcont
  isplitl [HO]; · iexact HO
  isplitl [Hwq Hwo Hkb Hvb Hq]
  · isplitl [Hwq]; · iexact Hwq
    isplitl [Hwo]; · iexact Hwo
    isplitl [Hkb]; · iexact Hkb
    isplitl [Hvb]; · iexact Hvb
    iexists _; iexact Hq
  isplitl [Hx]; · iexact Hx
  isplitl [Hps]; · iexact Hps
  isplitl [Hp]; · iexact Hp
  isplitl [Hz10]; · iexact Hz10
  isplitl [Hz13]; · iexact Hz13
  isplitl [Hz14]; · iexact Hz14
  isplitl [Hz17]; · iexact Hz17
  isplitl [Hy]; · iexact Hy
  iexact Hrs

end Cert.RunKernelIdeal

end
-- ==== Proof.RunKernelIdeal.Chunk3.lean ====
/-
# The fourth chunk

The block of rows three places behind the device: its product, between the hops that run meanwhile.
-/
module

public import proofs.«01_k».proof.Proof.RunKernelIdeal.Chunk0

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The last chunk: the reduction's second hop leaves; the block received last is multiplied out; the second hop's waits; the
    sum received is added and leaves as the third hop, whose send is waited for. -/
theorem chunk3 (X : Dev nD → Vec F S1x256x1024 .bf16) (RS : Fin 3 → Dev nD → Vec F S1x256x1024 .bf16) (K : Dev nD × Fin 13 → ℕ) (c : Dev nD) (v2 v4 : BitVec 32) (W : Waits sig Unit)
    (wq wo : Vec F S1024x1024 .bf16) (ks vs : Fin 8 → Vec F S1x4096x128 .bf16) (s1 : Vec F S1x256x1024 .bf16)
    (hw : s1 = RS 1 (nxt c)) (hw' : k0_pay92 (prodO (wordB v2 3#32) (X (bk 3 c)) wq wo ks vs) (RS 1 c) = RS 2 (nxt c))
    {α : Type} {Q : α → sProp 𝕄} (k : PUnit → Prog (TpuEff nD τ sig (Elt F) Λ₀ .tc) α) :
    iprop(levAts L lv ∗ owes (c : Thread nD τ) (owe c 2) W ∗ work c wq wo ks vs
        ∗ xs c (bk 3 c) fullShare (X (bk 3 c)) ∗ ps c (bk 2 c) s1 ∗ (∃ p, ps c (bk 3 c) p)
        ∗ rsTok X RS K c 1 15 18 8 11 ∗ toWaitS X RS K c 15 8 ∗ toWait X RS K c 18 11 ∗ rsTok X RS K c 2 16 19 9 12 ∗ toWaitS X RS K c 16 9)
      ⊢ iprop((∀ (W' : Waits sig Unit), (owes (c : Thread nD τ) (owe c 0) W' ∗ work c wq wo ks vs
            ∗ xs c (bk 3 c) fullShare (X (bk 3 c)) ∗ (∃ w, ps c (bk 2 c) w) ∗ (∃ w, ps c (bk 3 c) w)
            ∗ semVal (dCell c 15) 0 ∗ semVal (dCell c 18) 0 ∗ semVal (dCell c 16) 0 ∗ rs c 1 (RS 1 c)) -∗ WP c (k ⟨⟩) Q)
        -∗ WP c (P28 (F := F) c v2 v4 >>= fun r => P29 (F := F) r.2.1 r.2.2 >>= fun s => P30 (F := F) r.1 s.1 s.2.1 s.2.2.1 s.2.2.2.1 s.2.2.2.2.1 s.2.2.2.2.2.1 s.2.2.2.2.2.2 >>= fun t => P31 (F := F) c v2 v4 r.1 t.1 t.2.1 t.2.2 >>= fun v972 => P32 (F := F) c v2 v4 v972 >>= k) Q) := by
  unfold toWaitS toWait rsTok work P28 P29 P30 P31 P32 WP
  rw [k0_part28_eq_skeleton, k0_part29_eq_skeleton, k0_part30_eq_skeleton, k0_part31_eq_skeleton, k0_part32_eq_skeleton]
  unfold k0_part28_skel k0_part29_skel k0_part30_skel k0_part31_skel k0_part32_skel
  iintro ⟨#HL, HO, ⟨Hwq, Hwo, Hkb, Hvb, ⟨%qb, Hq⟩⟩, Hx, Hps, ⟨%p, Hp⟩, ⟨Hg1, Hg2, Hd, Ht1, Hr1, Ht2, Hr2⟩, ⟨#HI15, Hat15⟩, ⟨#HI18, HC18, Hat18⟩, ⟨Jg1, Jg2, Jd, Jt1, Jr1, Jt2, Jr2⟩, ⟨#HI16, Hat16⟩⟩ Hcont
  sl_exec
  iapply (wp_send_rs X RS K c ⟨k0_dev7 c, k0_dev7_lt c⟩ (dev7_eq c) 1 15 18 8 11 rfl rfl hw (off := k0_off12 c 1#32) (inb := k0_off12_inb c 1) (off12_bk c 1) (off₂ := ![1, 0, 0]) (inb₂ := inb_S3x256x1024_S1x256x1024_1_0_0) rfl rfl rfl (owe c 1) W)
    $$ [Hg1 Hg2 Hps Hd HO Ht1 Hr1 Ht2 Hr2]
  · isplitl [Hg1]; · iexact Hg1
    isplitl [Hg2]; · iexact Hg2
    isplitl [Hps]; · iexact Hps
    isplitl [Hd]; · iexact Hd
    isplitl [HO]; · iexact HO
    isplitl [Ht1]; · iexact Ht1
    isplitl [Hr1]; · iexact Hr1
    isplitl [Ht2]; · iexact Ht2
    iexact Hr2
  iintro ⟨HC15, HO⟩
  unfold WP
  sl_exec
  iapply (wp_load_xs c (bk 3 c) fullShare (X (bk 3 c)) (off4_bk c 3)) $$ Hx
  iintro Hx
  unfold WP
  sl_exec
  have hr : View.readAt (Elt F) (Memref.whole cc0_stg1_0).view (Rect.unit (s := S1024x1024) ![0, 0] S1024x1024.size inb_S1024x1024_S1024x1024_0_0).toLoadRect wq = wq :=
    Memref.readAt_unit_zero (Elt F) cc0_stg1_0 (by funext a; fin_cases a <;> rfl) _ wq
  rw [hr]
  have eq := writes8 (i0 := inb_S8x256x128_S1x256x128_0_0_0) (i1 := inb_S8x256x128_S1x256x128_1_0_0) (i2 := inb_S8x256x128_S1x256x128_2_0_0) (i3 := inb_S8x256x128_S1x256x128_3_0_0) (i4 := inb_S8x256x128_S1x256x128_4_0_0) (i5 := inb_S8x256x128_S1x256x128_5_0_0) (i6 := inb_S8x256x128_S1x256x128_6_0_0) (i7 := inb_S8x256x128_S1x256x128_7_0_0) (w0 := k0_pay74 (X (bk 3 c)) wq) (w1 := k0_pay75 (X (bk 3 c)) wq) (w2 := k0_pay77 (k0_pay76 (X (bk 3 c)) wq)) (w3 := k0_pay78 (k0_pay73 (X (bk 3 c)) wq)) (w4 := k0_pay79 (k0_pay73 (X (bk 3 c)) wq)) (w5 := k0_pay80 (k0_pay73 (X (bk 3 c)) wq)) (w6 := k0_pay81 (k0_pay73 (X (bk 3 c)) wq)) (w7 := k0_pay82 (k0_pay73 (X (bk 3 c)) wq)) (Memref.whole cc0_scratch6).view qb (qsl (X (bk 3 c)) wq) rfl rfl rfl rfl rfl rfl rfl rfl
  rw [rd6] at eq
  rw [Prog.bind_assoc]
  iapply (loop4 c v2 v4 (wordB v2 3#32) wo ks vs (qsl (X (bk 3 c)) wq)) $$ [Hwo Hkb Hvb Hq]
  · isplitl [Hwo]; · iexact Hwo
    isplitl [Hkb]; · iexact Hkb
    isplitl [Hvb]; · iexact Hvb
    iapply (pts_of_eq (ℓ := (Memref.whole cc0_scratch6).view.loc (c : Thread nD τ)) (q := fullShare) (g := slab (qsl (X (bk 3 c)) wq)) eq)
    iexact Hq
  iintro ⟨Hwo, Hkb, Hvb, Hq⟩
  have hpr : k0_pay91 (accO (wordB v2 3#32) (qsl (X (bk 3 c)) wq) ks vs wo 8) = prodO (wordB v2 3#32) (X (bk 3 c)) wq wo ks vs := rfl
  iapply (wp_load_ps c (bk 3 c) p (off4_bk c 3)) $$ Hp
  iintro Hp
  rw [hpr]
  iapply (wp_store_ps c (bk 3 c) p (prodO (wordB v2 3#32) (X (bk 3 c)) wq wo ks vs) (off4_bk c 3)) $$ Hp
  iintro Hp
  iapply (wp_wait_dma X RS K c 15 (by decide) 8 1 (show ∀ j < 1, lvD 15 < lvT j by decide) (P := iprop(∃ w, ps c (bk 2 c) w)) rfl W rfl rfl) $$ [HC15 HO Hat15]
  · isplitr; · iexact HL
    isplitr; · iexact HI15
    isplitl [HC15]; · iexact HC15
    isplitl [HO]; · iexact HO
    iexact Hat15
  iintro ⟨%W1, HO⟩ Hz15 Hpt
  iapply (wp_wait_dma X RS K c 18 (by decide) 11 1 (show ∀ j < 1, lvD 18 < lvT j by decide) (P := rs c 1 (RS 1 c)) rfl W1 rfl rfl) $$ [HC18 HO Hat18]
  · isplitr; · iexact HL
    isplitr; · iexact HI18
    isplitl [HC18]; · iexact HC18
    isplitl [HO]; · iexact HO
    iexact Hat18
  iintro ⟨%W2, HO⟩ Hz18 Hrs
  iapply (wp_load_ps c (bk 3 c) (prodO (wordB v2 3#32) (X (bk 3 c)) wq wo ks vs) (off4_bk c 3)) $$ Hp
  iintro Hp
  iapply (wp_load_rs c 1 (RS 1 c) rfl) $$ Hrs
  iintro Hrs
  iapply (wp_load_ps c (bk 3 c) (prodO (wordB v2 3#32) (X (bk 3 c)) wq wo ks vs) (off4_bk c 3)) $$ Hp
  iintro Hp
  iapply (wp_store_ps c (bk 3 c) (prodO (wordB v2 3#32) (X (bk 3 c)) wq wo ks vs) (k0_pay92 (prodO (wordB v2 3#32) (X (bk 3 c)) wq wo ks vs) (RS 1 c)) (off4_bk c 3)) $$ Hp
  iintro Hps
  iapply (wp_send_rs X RS K c ⟨k0_dev8 c, k0_dev8_lt c⟩ (dev8_eq c) 2 16 19 9 12 rfl rfl hw' (off := k0_off12 c 2#32) (inb := k0_off12_inb c 2) (off12_bk c 2) (off₂ := ![2, 0, 0]) (inb₂ := inb_S3x256x1024_S1x256x1024_2_0_0) rfl rfl rfl (owe c 0) W2)
    $$ [Jg1 Jg2 Hps Jd HO Jt1 Jr1 Jt2 Jr2]
  · isplitl [Jg1]; · iexact Jg1
    isplitl [Jg2]; · iexact Jg2
    isplitl [Hps]; · iexact Hps
    isplitl [Jd]; · iexact Jd
    isplitl [HO]; · iexact HO
    isplitl [Jt1]; · iexact Jt1
    isplitl [Jr1]; · iexact Jr1
    isplitl [Jt2]; · iexact Jt2
    iexact Jr2
  iintro ⟨HC16, HO⟩
  iapply (wp_wait_dma X RS K c 16 (by decide) 9 0 (show ∀ j < 0, lvD 16 < lvT j by decide) (P := iprop(∃ w, ps c (bk 3 c) w)) rfl W2 rfl rfl) $$ [HC16 HO Hat16]
  · isplitr; · iexact HL
    isplitr; · iexact HI16
    isplitl [HC16]; · iexact HC16
    isplitl [HO]; · iexact HO
    iexact Hat16
  iintro ⟨%W3, HO⟩ Hz16 Hps
  unfold WP
  simp only [Prog.pure_eq_ret, Prog.bind]
  iapply Hcont
  isplitl [HO]; · iexact HO
  isplitl [Hwq Hwo Hkb Hvb Hq]
  · isplitl [Hwq]; · iexact Hwq
    isplitl [Hwo]; · iexact Hwo
    isplitl [Hkb]; · iexact Hkb
    isplitl [Hvb]; · iexact Hvb
    iexists _; iexact Hq
  isplitl [Hx]; · iexact Hx
  isplitl [Hpt]; · iexact Hpt
  isplitl [Hps]; · iexact Hps
  isplitl [Hz15]; · iexact Hz15
  isplitl [Hz18]; · iexact Hz18
  isplitl [Hz16]; · iexact Hz16
  iexact Hrs

end Cert.RunKernelIdeal

end
-- ==== Proof.RunKernelIdeal.Body.lean ====
/-
# The kernel's body

The pieces put together: from its staged inputs, its scratch and its share of the protocol, a device leaves in its staging
buffer of the result the sum of four partial sums — its own and the one that came around the ring — and gives everything
else back.
-/
module

public import proofs.«01_k».proof.Proof.RunKernelIdeal.Ends
public import proofs.«01_k».proof.Proof.RunKernelIdeal.Chunk1
public import proofs.«01_k».proof.Proof.RunKernelIdeal.Chunk2
public import proofs.«01_k».proof.Proof.RunKernelIdeal.Chunk3

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What travels -/

section Values

variable (xg : Dev nD → Vec F S1x256x1024 .bf16) (wq wo : Dev nD → Vec F S1024x1024 .bf16) (kc : Dev nD → main_arg2.ty.Contents (Elt F)) (vc : Dev nD → main_arg3.ty.Contents (Elt F))

/-- The block of rows of `x` that device `d` starts with. -/
def Xv (d : Dev nD) : Vec F S1x256x1024 .bf16 := k0_pay2 (xg d)

/-- Device `c`'s partial result for the rows of the device `i` places behind, `r` being `i` as a word. -/
def prodI (r : BitVec 32) (i : ℕ) (c : Dev nD) : Vec F S1x256x1024 .bf16 :=
  prodO (wordB (v2w c) r) (Xv xg (bk i c)) (wq c) (wo c) (fun h => k0_pay3 (kcv c (kc c) h)) (fun h => k0_pay3 (vcv c (vc c) h))

/-- What the first hop of the reduction brings `c`, -/
def rs0 (c : Dev nD) : Vec F S1x256x1024 .bf16 := prodI xg wq wo kc vc 1#32 1 (prv c)
/-- the second, -/
def rs1 (c : Dev nD) : Vec F S1x256x1024 .bf16 := k0_pay72 (prodI xg wq wo kc vc 2#32 2 (prv c)) (rs0 xg wq wo kc vc (prv c))
/-- the third. -/
def rs2 (c : Dev nD) : Vec F S1x256x1024 .bf16 := k0_pay92 (prodI xg wq wo kc vc 3#32 3 (prv c)) (rs1 xg wq wo kc vc (prv c))

/-- The three hops of the reduction. -/
def RSv (s : Fin 3) (c : Dev nD) : Vec F S1x256x1024 .bf16 := match s with
  | 0 => rs0 xg wq wo kc vc c
  | 1 => rs1 xg wq wo kc vc c
  | 2 => rs2 xg wq wo kc vc c

/-- The block of the result device `c` computes. -/
def outv (c : Dev nD) : Vec F S1x256x1024 .f32 := k0_pay1 (k0_pay93 (prodI xg wq wo kc vc 0#32 0 c) (rs2 xg wq wo kc vc c))

end Values

/-! ## The program -/

/-- The end of the kernel: the last wait and the last sum. -/
def tailP (d0 : Dev nD) : Prog (TpuEff nD τ sig (Elt F) Λ₀ .tc) (FVec F S256x1024 .bf16) := do
  let v1005 : DmaSems sig S1 := cc0_scratch11.slice (Rect.unit (s := S3) ![2] S1.size inb_S3_S1_2)
  let v1006 : DmaSems sig S_ := v1005.squeeze S_ squeezes_S1_S_
  let v1007 : Memref sig .tc .vmem S1x256x1024 .bf16 := (Memref.whole cc0_scratch2).slice (Rect.unit (s := S3x256x1024) ![2, 0, 0] S1x256x1024.size inb_S3x256x1024_S1x256x1024_2_0_0) (fun _ => rfl)
  let v1008 : Memref sig .tc .vmem S256x1024 .bf16 := v1007.squeeze S256x1024 squeezes_S1x256x1024_S256x1024
  let v1009 : Memref sig .tc .vmem S1x256x1024 .bf16 := (Memref.whole cc0_scratch1).slice (Rect.unit (s := S4x256x1024) (k0_off12 d0 2#32) S1x256x1024.size (k0_off12_inb d0 2)) (fun _ => rfl)
  let v1010 : Memref sig .tc .vmem S256x1024 .bf16 := v1009.squeeze S256x1024 squeezes_S1x256x1024_S256x1024
  Prog.lift (.waitDma2 v1006.sem v1010 v1008 (((Memref.isWhole_whole cc0_scratch1).wordExact_slice rfl _ (k0_off12_wordsbf16 d0 2)).reshape _ _) (((Memref.isWhole_whole cc0_scratch2).wordExact_slice rfl _ wordsbf16_S3x256x1024_S1x256x1024_2_0_0).reshape _ _))
  let v1012 : Vec F S1x256x1024 .bf16 ← Prog.lift (.load (Memref.whole cc0_scratch1) (Rect.unit (s := S4x256x1024) (k0_off1 d0) S1x256x1024.size (k0_off1_inb d0)).toLoadRect (View.loadsAt_vmem h_S1x256x1024))
  let v1014 : Vec F S1x256x1024 .bf16 ← Prog.lift (.load (Memref.whole cc0_scratch2) (Rect.unit (s := S3x256x1024) ![2, 0, 0] S1x256x1024.size inb_S3x256x1024_S1x256x1024_2_0_0).toLoadRect (View.loadsAt_vmem h_S1x256x1024))
  pure (k0_pay93 v1012 v1014)

set_option maxRecDepth 65536 in
/-- The kernel up to its last store, as the chain of its pieces. -/
theorem P33_chain : P33 (F := F) = (P1 (F := F) >>= fun r1 => P2 (F := F) r1.1 r1.2.1 >>= fun r2 => P3 (F := F) r1.1 r1.2.1 r2.1 r2.2 >>= fun _ => P4 (F := F) r1.1 r1.2.1 >>= fun _ => P5 (F := F) r1.1 r1.2.1 >>= fun _ => P6 (F := F) r1.1 r1.2.1 >>= fun v159 => P7 (F := F) r1.1 r1.2.1 v159 >>= fun _ => P8 (F := F) r1.1 r1.2.1 >>= fun _ => P9 (F := F) r1.1 r1.2.1 >>= fun _ => P10 (F := F) r1.1 r1.2.1 >>= fun _ => P11 (F := F) r1.1 r1.2.1 >>= fun _ => P12 (F := F) r1.1 r1.2.1 >>= fun _ => P13 (F := F) r1.1 r1.2.1 >>= fun v349 => P14 (F := F) r1.1 r1.2.1 v349 >>= fun v377 => P15 (F := F) r1.1 r1.2.1 v377 >>= fun r15 => P16 (F := F) r15.2.1 r15.2.2 >>= fun r16 => P17 (F := F) r15.1 r16.1 r16.2.1 r16.2.2.1 r16.2.2.2 >>= fun v489 => P18 (F := F) r1.1 r1.2.1 r1.2.2 v489 >>= fun _ => P19 (F := F) r1.1 r1.2.1 >>= fun r19 => P20 (F := F) r19.1 r19.2 >>= fun r20 => P21 (F := F) r1.1 r19.1 r20.1 r20.2.1 r20.2.2 >>= fun v633 => P22 (F := F) r1.1 r1.2.1 r1.2.2 v633 >>= fun r22 => P23 (F := F) r1.1 r1.2.1 r1.2.2 r22.1 r22.2 >>= fun r23 => P24 (F := F) r23.2.1 r23.2.2 >>= fun r24 => P25 (F := F) r23.1 r24.1 r24.2.1 r24.2.2.1 r24.2.2.2.1 r24.2.2.2.2.1 r24.2.2.2.2.2 >>= fun r25 => P26 (F := F) r1.1 r1.2.2 r23.1 r25.1 r25.2.1 r25.2.2 >>= fun _ => P27 (F := F) r1.1 r1.2.1 r1.2.2 >>= fun _ => P28 (F := F) r1.1 r1.2.1 r1.2.2 >>= fun r28 => P29 (F := F) r28.2.1 r28.2.2 >>= fun r29 => P30 (F := F) r28.1 r29.1 r29.2.1 r29.2.2.1 r29.2.2.2.1 r29.2.2.2.2.1 r29.2.2.2.2.2.1 r29.2.2.2.2.2.2 >>= fun r30 => P31 (F := F) r1.1 r1.2.1 r1.2.2 r28.1 r30.1 r30.2.1 r30.2.2 >>= fun v972 => P32 (F := F) r1.1 r1.2.1 r1.2.2 v972 >>= fun _ => tailP (F := F) r1.1) := by
  unfold P33
  rw [k0_part33_eq_skeleton]
  rfl

/-- The end of the kernel. -/
theorem ending (X : Dev nD → Vec F S1x256x1024 .bf16) (RS : Fin 3 → Dev nD → Vec F S1x256x1024 .bf16) (K : Dev nD × Fin 13 → ℕ) (c : Dev nD) (W : Waits sig Unit)
    (p : Vec F S1x256x1024 .bf16) {Q : FVec F S256x1024 .bf16 → sProp 𝕄} :
    iprop(levAts L lv ∗ owes (c : Thread nD τ) (owe c 0) W ∗ toWait X RS K c 19 12 ∗ ps c (bk 0 c) p)
      ⊢ iprop((∀ W' : Waits sig Unit, (owes (c : Thread nD τ) (owe c 0) W' ∗ semVal (dCell c 19) 0 ∗ ps c (bk 0 c) p ∗ rs c 2 (RS 2 c)) -∗ Q (k0_pay93 p (RS 2 c)))
        -∗ WP c (tailP (F := F) c) Q) := by
  unfold tailP toWait WP
  simp only [Prog.lift, Prog.bind_op, Prog.bind_ret, Prog.pure_eq_ret]
  iintro ⟨#HL, HO, ⟨#HI, HC, Hat⟩, Hp⟩ Hcont
  iapply (wp_wait_dma X RS K c 19 (by decide) 12 0 (show ∀ j < 0, lvD 19 < lvT j by decide) (P := rs c 2 (RS 2 c)) rfl W rfl rfl) $$ [HC HO Hat]
  · isplitr; · iexact HL
    isplitr; · iexact HI
    isplitl [HC]; · iexact HC
    isplitl [HO]; · iexact HO
    iexact Hat
  iintro ⟨%W1, HO⟩ Hz Hr
  iapply (wp_load_ps c (bk 0 c) p ((k0_off1_eq c).trans (off_bk0 c))) $$ Hp
  iintro Hp
  iapply (wp_load_rs c 2 (RS 2 c) rfl) $$ Hr
  iintro Hr
  unfold WP
  rw [wp_ret]
  imodintro
  iapply Hcont
  isplitl [HO]; · iexact HO
  isplitl [Hz]; · iexact Hz
  isplitl [Hp]; · iexact Hp
  iexact Hr

/-! ## A device's share of the protocol -/

/-- What hop `iS → iR` needs besides its two slots. -/
def hop (X : Dev nD → Vec F S1x256x1024 .bf16) (RS : Fin 3 → Dev nD → Vec F S1x256x1024 .bf16) (K : Dev nD × Fin 13 → ℕ) (c : Dev nD) (iS iR : Fin 20) (jS jR : Fin 13) : sProp 𝕄 := iprop(
  cellInv ER (ringRd X RS) (K (c, jS)) (dCell c iS) ∗ cellInv ER (ringRd X RS) (K (nxt c, jR)) (dCell (nxt c) iR)
  ∗ dutyTok ER (dCell c iS) 0 false ∗ reached ER (dCell c iS) 0
  ∗ dutyTok ER (dCell (nxt c) iR) 0 false ∗ reached ER (dCell (nxt c) iR) 0)

/-- The device's share: the handshake, the six hops, its place at each of its twelve semaphores. -/
def ghost (X : Dev nD → Vec F S1x256x1024 .bf16) (RS : Fin 3 → Dev nD → Vec F S1x256x1024 .bf16) (K : Dev nD × Fin 13 → ℕ) (c : Dev nD) : sProp 𝕄 := iprop(
  barTok X RS K c
  ∗ hop X RS K c 8 11 1 4 ∗ hop X RS K c 9 12 2 5 ∗ hop X RS K c 10 13 3 6 ∗ hop X RS K c 14 17 7 10 ∗ hop X RS K c 15 18 8 11 ∗ hop X RS K c 16 19 9 12
  ∗ toWaitS X RS K c 8 1 ∗ toWaitS X RS K c 9 2 ∗ toWaitS X RS K c 10 3 ∗ toWaitS X RS K c 11 4 ∗ toWaitS X RS K c 12 5 ∗ toWaitS X RS K c 13 6
  ∗ toWaitS X RS K c 14 7 ∗ toWaitS X RS K c 15 8 ∗ toWaitS X RS K c 16 9 ∗ toWaitS X RS K c 17 10 ∗ toWaitS X RS K c 18 11 ∗ toWaitS X RS K c 19 12)

/-- The credits of what others will pay it. -/
def credits (c : Dev nD) : sProp 𝕄 := iprop(cred (tallyAt (barCell c) () 2)
  ∗ cred (tallyAt (dCell c 11) () N) ∗ cred (tallyAt (dCell c 12) () N) ∗ cred (tallyAt (dCell c 13) () N)
  ∗ cred (tallyAt (dCell c 17) () N) ∗ cred (tallyAt (dCell c 18) () N) ∗ cred (tallyAt (dCell c 19) () N))

/-- The seven scratch buffers, at whatever they hold. -/
def scratches (c : Dev nD) : sProp 𝕄 := iprop(
  (∃ f : cc0_scratch0.ty.Contents (Elt F), (c : Thread nD τ).loc cc0_scratch0 ↦{fullShare} f) ∗ (∃ f : cc0_scratch1.ty.Contents (Elt F), (c : Thread nD τ).loc cc0_scratch1 ↦{fullShare} f)
  ∗ (∃ f : cc0_scratch2.ty.Contents (Elt F), (c : Thread nD τ).loc cc0_scratch2 ↦{fullShare} f) ∗ (∃ f : cc0_scratch3.ty.Contents (Elt F), (c : Thread nD τ).loc cc0_scratch3 ↦{fullShare} f)
  ∗ (∃ f : cc0_scratch4.ty.Contents (Elt F), (c : Thread nD τ).loc cc0_scratch4 ↦{fullShare} f) ∗ (∃ f : cc0_scratch5.ty.Contents (Elt F), (c : Thread nD τ).loc cc0_scratch5 ↦{fullShare} f)
  ∗ (∃ f : cc0_scratch6.ty.Contents (Elt F), (c : Thread nD τ).loc cc0_scratch6 ↦{fullShare} f))

/-- All counters of the ring at zero. -/
def ringZero (c : Dev nD) : sProp 𝕄 := iprop(semVal (barCell c) 0
  ∗ semVal (dCell c 8) 0 ∗ semVal (dCell c 9) 0 ∗ semVal (dCell c 10) 0 ∗ semVal (dCell c 11) 0 ∗ semVal (dCell c 12) 0 ∗ semVal (dCell c 13) 0
  ∗ semVal (dCell c 14) 0 ∗ semVal (dCell c 15) 0 ∗ semVal (dCell c 16) 0 ∗ semVal (dCell c 17) 0 ∗ semVal (dCell c 18) 0 ∗ semVal (dCell c 19) 0)

section Body

variable (xg : Dev nD → Vec F S1x256x1024 .bf16) (wq wo : Dev nD → Vec F S1024x1024 .bf16) (kc : Dev nD → main_arg2.ty.Contents (Elt F)) (vc : Dev nD → main_arg3.ty.Contents (Elt F))

/-- What the body starts from, the result's staging buffer apart. -/
def pre33 (K : Dev nD × Fin 13 → ℕ) (c : Dev nD) (W : Waits sig Unit) : sProp 𝕄 := iprop(
  levAts L lv ∗ owes (c : Thread nD τ) (owe c 8) W ∗ ghost (Xv xg) (RSv xg wq wo kc vc) K c ∗ credits c ∗ scratches (F := F) c ∗ kvsems c
  ∗ ((Memref.whole main_arg2).view.loc (c : Thread nD τ) ↦{fullShare} kc c) ∗ ((Memref.whole main_arg3).view.loc (c : Thread nD τ) ↦{fullShare} vc c)
  ∗ ((Memref.whole cc0_stg0_0).view.loc (c : Thread nD τ) ↦{fullShare} xg c) ∗ ((Memref.whole cc0_stg1_0).view.loc (c : Thread nD τ) ↦{fullShare} wq c)
  ∗ ((Memref.whole cc0_stg2_0).view.loc (c : Thread nD τ) ↦{fullShare} wo c))

/-- What it ends with. -/
def post33 (c : Dev nD) : sProp 𝕄 := iprop(
  (∃ W' : Waits sig Unit, owes (c : Thread nD τ) (owe c 0) W') ∗ ringZero (F := F) c ∗ scratches (F := F) c ∗ kvsems c
  ∗ ((Memref.whole main_arg2).view.loc (c : Thread nD τ) ↦{fullShare} kc c) ∗ ((Memref.whole main_arg3).view.loc (c : Thread nD τ) ↦{fullShare} vc c)
  ∗ ((Memref.whole cc0_stg0_0).view.loc (c : Thread nD τ) ↦{fullShare} xg c) ∗ ((Memref.whole cc0_stg1_0).view.loc (c : Thread nD τ) ↦{fullShare} wq c)
  ∗ ((Memref.whole cc0_stg2_0).view.loc (c : Thread nD τ) ↦{fullShare} wo c))

set_option maxHeartbeats 4000000 in
/-- The body up to its last store. -/
theorem run33 (K : Dev nD × Fin 13 → ℕ) (c : Dev nD) (W : Waits sig Unit) {Q : FVec F S256x1024 .bf16 → sProp 𝕄} :
    pre33 xg wq wo kc vc K c W
      ⊢ iprop((post33 xg wq wo kc vc c -∗ Q (k0_pay93 (prodI xg wq wo kc vc 0#32 0 c) (rs2 xg wq wo kc vc c))) -∗ WP c (P33 (F := F)) Q) := by
  rw [P33_chain]
  unfold pre33 ghost hop credits scratches toWaitS
  rw [gather_slots, partial_slots, reduce_slots, stage_slots]
  iintro ⟨#HL, HO, ⟨Hbar,
    ⟨#Hs8, #Hr11, Ht8, #Hq8, Ht11, #Hq11⟩, ⟨#Hs9, #Hr12, Ht9, #Hq9, Ht12, #Hq12⟩, ⟨#Hs10, #Hr13, Ht10, #Hq10, Ht13, #Hq13⟩,
    ⟨#Hs14, #Hr17, Ht14, #Hq14, Ht17, #Hq17⟩, ⟨#Hs15, #Hr18, Ht15, #Hq15, Ht18, #Hq18⟩, ⟨#Hs16, #Hr19, Ht16, #Hq16, Ht19, #Hq19⟩,
    ⟨#Hi8, Ha8⟩, ⟨#Hi9, Ha9⟩, ⟨#Hi10, Ha10⟩, ⟨#Hi11, Ha11⟩, ⟨#Hi12, Ha12⟩, ⟨#Hi13, Ha13⟩, ⟨#Hi14, Ha14⟩, ⟨#Hi15, Ha15⟩, ⟨#Hi16, Ha16⟩, ⟨#Hi17, Ha17⟩, ⟨#Hi18, Ha18⟩, ⟨#Hi19, Ha19⟩⟩,
    ⟨HCb, HC11, HC12, HC13, HC17, HC18, HC19⟩,
    ⟨⟨Hx0, Hx1, Hx2, Hx3⟩, ⟨Hp0, Hp1, Hp2, Hp3⟩, ⟨Hr0, Hr1, Hr2⟩, ⟨%f1, Hkb⟩, ⟨%f2, Hvb⟩, Hst, Hq⟩, Hkv, HK, HV, Hx, Hwq, Hwo⟩ Hcont
  iapply (piece1 (Xv xg) (RSv xg wq wo kc vc) K c W (xg c)) $$ [HO Hbar HCb Hx Hx0 Hx1 Hx2 Hx3 Hr0 Hr1 Hr2]
  · isplitr; · iexact HL
    isplitl [HO]; · iexact HO
    isplitl [Hbar]; · iexact Hbar
    isplitl [HCb]; · iexact HCb
    isplitl [Hx]; · iexact Hx
    isplitl [Hx0]; · iexact Hx0
    isplitl [Hx1]; · iexact Hx1
    isplitl [Hx2]; · iexact Hx2
    isplitl [Hx3]; · iexact Hx3
    isplitl [Hr0]; · iexact Hr0
    isplitl [Hr1]; · iexact Hr1
    iexact Hr2
  iintro %W1 ⟨HO, HzB, Hx, Hx0, Hn0, Hn1, Hn2, Hm0, Hm1, Hm2⟩
  ihave Hx0 := (xs_halves c (bk 0 c) (k0_pay2 (xg c))).1 $$ Hx0
  icases Hx0 with ⟨Hx0l, Hx0r⟩
  have hX : Xv xg (bk 0 c) = k0_pay2 (xg c) := by unfold Xv; rw [bk_zero]
  iapply (kv_phase (Xv xg) (RSv xg wq wo kc vc) K c (v2w c) W1 (kc c) (vc c) f1 f2) $$ [HO Hx0l Hn0 Ht8 Ht11 HK HV Hst Hkb Hvb Hkv]
  · isplitr; · iexact HL
    isplitl [HO]; · iexact HO
    isplitl [Hx0l Hn0 Ht8 Ht11]
    · unfold agPre
      isplitr; · iexact Hs8
      isplitr; · iexact Hr11
      isplitl [Hx0l]
      · iapply (Entails.of_eq (show xs c (bk 0 c) fullShare.left (k0_pay2 (xg c)) = xs c (bk 0 c) fullShare.left (Xv xg (bk 0 c)) by rw [hX])) $$ Hx0l
      isplitl [Hn0]; · iexact Hn0
      isplitl [Ht8]; · iexact Ht8
      isplitr; · iexact Hq8
      isplitl [Ht11]; · iexact Ht11
      iexact Hq11
    isplitl [HK]; · iexact HK
    isplitl [HV]; · iexact HV
    isplitl [Hst]; · iexact Hst
    isplitl [Hkb]; · iexact Hkb
    isplitl [Hvb]; · iexact Hvb
    iexact Hkv
  iintro %v377 %fv %W2 ⟨%hv, HO, HC8, HK, HV, Hst, Hkb, Hvb, Hkv⟩
  iapply (chunk0 (Xv xg) (RSv xg wq wo kc vc) K c (v2w c) (v4w c) W2 (k0_pay2 (xg c)) (wq c) (wo c) (fun h => k0_pay3 (kcv c (kc c) h)) (fun h => k0_pay3 (vcv c (vc c) h)) v377 fv hv)
    $$ [HO Hwq Hwo Hkb Hvb Hq Hx0r Hp0 Ha8 HC8 HC11 Ha11]
  · isplitr; · iexact HL
    isplitl [HO]; · iexact HO
    isplitl [Hwq]; · iexact Hwq
    isplitl [Hwo]; · iexact Hwo
    isplitl [Hkb]; · iexact Hkb
    isplitl [Hvb]; · iexact Hvb
    isplitl [Hq]; · iexact Hq
    isplitl [Hx0r]; · iexact Hx0r
    isplitl [Hp0]; · iexact Hp0
    unfold toWaitS toWait
    isplitl [Ha8]
    · isplitr; · iexact Hi8
      iexact Ha8
    isplitl [HC8]; · iexact HC8
    isplitr; · iexact Hi11
    isplitl [HC11]; · iexact HC11
    iexact Ha11
  iintro %W3 ⟨HO, Hwork, Hx0r, Hp0, Hz8, Hx0l, Hz11, Hx1⟩
  iapply (chunk1 (Xv xg) (RSv xg wq wo kc vc) K c (v2w c) (v4w c) W3 (wq c) (wo c) (fun h => k0_pay3 (kcv c (kc c) h)) (fun h => k0_pay3 (vcv c (vc c) h)))
    $$ [HO Hwork Hx1 Hp1 Hn1 Ht9 Ht12 Ha9 HC12 Ha12 Hn2 Ht10 Ht13]
  · isplitr; · iexact HL
    isplitl [HO]; · iexact HO
    isplitl [Hwork]; · iexact Hwork
    isplitl [Hx1]; · iexact Hx1
    isplitl [Hp1]; · iexact Hp1
    unfold toWaitS toWait agTok
    isplitl [Hn1 Ht9 Ht12]
    · isplitr; · iexact Hs9
      isplitr; · iexact Hr12
      isplitl [Hn1]; · iexact Hn1
      isplitl [Ht9]; · iexact Ht9
      isplitr; · iexact Hq9
      isplitl [Ht12]; · iexact Ht12
      iexact Hq12
    isplitl [Ha9]
    · isplitr; · iexact Hi9
      iexact Ha9
    isplitl [HC12 Ha12]
    · isplitr; · iexact Hi12
      isplitl [HC12]; · iexact HC12
      iexact Ha12
    isplitr; · iexact Hs10
    isplitr; · iexact Hr13
    isplitl [Hn2]; · iexact Hn2
    isplitl [Ht10]; · iexact Ht10
    isplitr; · iexact Hq10
    isplitl [Ht13]; · iexact Ht13
    iexact Hq13
  iintro %r22 %W4 ⟨HO, Hwork, Hx1, Hp1, Hz9, Hz12, Hx2, HC10⟩
  iapply (chunk2 (Xv xg) (RSv xg wq wo kc vc) K c (v2w c) (v4w c) W4 (wq c) (wo c) (fun h => k0_pay3 (kcv c (kc c) h)) (fun h => k0_pay3 (vcv c (vc c) h)) r22.1 r22.2
      (show prodI xg wq wo kc vc 1#32 1 c = rs0 xg wq wo kc vc (nxt c) by unfold rs0; rw [prv_nxt]))
    $$ [HO Hwork Hx2 Hp1 Hp2 Hm0 Ht14 Ht17 Ha10 HC10 HC13 Ha13 Ha14 HC17 Ha17]
  · isplitr; · iexact HL
    isplitl [HO]; · iexact HO
    isplitl [Hwork]; · iexact Hwork
    isplitl [Hx2]; · iexact Hx2
    isplitl [Hp1]; · iexact Hp1
    isplitl [Hp2]; · iexact Hp2
    unfold toWaitS toWait rsTok
    isplitl [Hm0 Ht14 Ht17]
    · isplitr; · iexact Hs14
      isplitr; · iexact Hr17
      isplitl [Hm0]; · iexact Hm0
      isplitl [Ht14]; · iexact Ht14
      isplitr; · iexact Hq14
      isplitl [Ht17]; · iexact Ht17
      iexact Hq17
    isplitl [Ha10]
    · isplitr; · iexact Hi10
      iexact Ha10
    isplitl [HC10]; · iexact HC10
    isplitl [HC13 Ha13]
    · isplitr; · iexact Hi13
      isplitl [HC13]; · iexact HC13
      iexact Ha13
    isplitl [Ha14]
    · isplitr; · iexact Hi14
      iexact Ha14
    isplitr; · iexact Hi17
    isplitl [HC17]; · iexact HC17
    iexact Ha17
  iintro %W5 ⟨HO, Hwork, Hx2, Hp1, Hp2, Hz10, Hz13, Hz14, Hz17, Hx3, Hr0⟩
  iapply (chunk3 (Xv xg) (RSv xg wq wo kc vc) K c (v2w c) (v4w c) W5 (wq c) (wo c) (fun h => k0_pay3 (kcv c (kc c) h)) (fun h => k0_pay3 (vcv c (vc c) h))
      (k0_pay72 (prodI xg wq wo kc vc 2#32 2 c) (rs0 xg wq wo kc vc c))
      (show k0_pay72 (prodI xg wq wo kc vc 2#32 2 c) (rs0 xg wq wo kc vc c) = rs1 xg wq wo kc vc (nxt c) by unfold rs1; rw [prv_nxt])
      (show k0_pay92 (prodI xg wq wo kc vc 3#32 3 c) (rs1 xg wq wo kc vc c) = rs2 xg wq wo kc vc (nxt c) by unfold rs2; rw [prv_nxt]))
    $$ [HO Hwork Hx3 Hp2 Hp3 Hm1 Ht15 Ht18 Ha15 HC18 Ha18 Hm2 Ht16 Ht19 Ha16]
  · isplitr; · iexact HL
    isplitl [HO]; · iexact HO
    isplitl [Hwork]; · iexact Hwork
    isplitl [Hx3]; · iexact Hx3
    isplitl [Hp2]; · iexact Hp2
    isplitl [Hp3]; · iexact Hp3
    unfold toWaitS toWait rsTok
    isplitl [Hm1 Ht15 Ht18]
    · isplitr; · iexact Hs15
      isplitr; · iexact Hr18
      isplitl [Hm1]; · iexact Hm1
      isplitl [Ht15]; · iexact Ht15
      isplitr; · iexact Hq15
      isplitl [Ht18]; · iexact Ht18
      iexact Hq18
    isplitl [Ha15]
    · isplitr; · iexact Hi15
      iexact Ha15
    isplitl [HC18 Ha18]
    · isplitr; · iexact Hi18
      isplitl [HC18]; · iexact HC18
      iexact Ha18
    isplitl [Hm2 Ht16 Ht19]
    · isplitr; · iexact Hs16
      isplitr; · iexact Hr19
      isplitl [Hm2]; · iexact Hm2
      isplitl [Ht16]; · iexact Ht16
      isplitr; · iexact Hq16
      isplitl [Ht19]; · iexact Ht19
      iexact Hq19
    isplitr; · iexact Hi16
    iexact Ha16
  iintro %W6 ⟨HO, Hwork, Hx3, Hp2, Hp3, Hz15, Hz18, Hz16, Hr1⟩
  iapply (ending (Xv xg) (RSv xg wq wo kc vc) K c W6 (prodI xg wq wo kc vc 0#32 0 c)) $$ [HO HC19 Ha19 Hp0]
  · isplitr; · iexact HL
    isplitl [HO]; · iexact HO
    unfold toWait
    isplitl [HC19 Ha19]
    · isplitr; · iexact Hi19
      isplitl [HC19]; · iexact HC19
      iexact Ha19
    unfold prodI; rw [hX]; iexact Hp0
  iintro %W7 ⟨HO, Hz19, Hp0, Hr2⟩
  rw [show RSv xg wq wo kc vc 2 c = rs2 xg wq wo kc vc c from rfl]
  iapply Hcont
  unfold post33 ringZero work
  icases Hwork with ⟨Hwq, Hwo, Hkb, Hvb, Hq⟩
  isplitl [HO]; · iexists _; iexact HO
  isplitl [HzB Hz8 Hz9 Hz10 Hz11 Hz12 Hz13 Hz14 Hz15 Hz16 Hz17 Hz18 Hz19]
  · isplitl [HzB]; · iexact HzB
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    isplitl [Hz17]; · iexact Hz17
    isplitl [Hz18]; · iexact Hz18
    iexact Hz19
  isplitl [Hx0l Hx0r Hx1 Hx2 Hx3 Hp0 Hp1 Hp2 Hp3 Hr0 Hr1 Hr2 Hkb Hvb Hst Hq]
  · unfold scratches
    rw [gather_slots, partial_slots, reduce_slots, stage_slots]
    isplitl [Hx0l Hx0r Hx1 Hx2 Hx3]
    · isplitl [Hx0l Hx0r]
      · iexists (k0_pay2 (xg c))
        iapply (xs_halves c (bk 0 c) (k0_pay2 (xg c))).2
        isplitl [Hx0l]; · rw [hX]; iexact Hx0l
        iexact Hx0r
      isplitl [Hx1]; · iexists _; iexact Hx1
      isplitl [Hx2]; · iexists _; iexact Hx2
      iexists _; iexact Hx3
    isplitl [Hp0 Hp1 Hp2 Hp3]
    · isplitl [Hp0]; · iexists _; iexact Hp0
      isplitl [Hp1]; · iexact Hp1
      isplitl [Hp2]; · iexact Hp2
      iexact Hp3
    isplitl [Hr0 Hr1 Hr2]
    · isplitl [Hr0]; · iexists _; iexact Hr0
      isplitl [Hr1]; · iexists _; iexact Hr1
      iexists _; iexact Hr2
    isplitl [Hkb]; · iexists _; iexact Hkb
    isplitl [Hvb]; · iexists _; iexact Hvb
    isplitl [Hst]; · iexact Hst
    iexact Hq
  isplitl [Hkv]; · iexact Hkv
  isplitl [HK]; · iexact HK
  isplitl [HV]; · iexact HV
  isplitl [Hx]; · iexact Hx
  isplitl [Hwq]; · iexact Hwq
  iexact Hwo

/-- The whole body. -/
theorem run_body (K : Dev nD × Fin 13 → ℕ) (c : Dev nD) (W : Waits sig Unit) (o : Vec F S1x256x1024 .f32) (Q : PUnit → sProp 𝕄) :
    iprop(pre33 xg wq wo kc vc K c W ∗ ((Memref.whole cc0_stg3_0).view.loc (c : Thread nD τ) ↦{fullShare} o)
        ∗ ((post33 xg wq wo kc vc c ∗ ((Memref.whole cc0_stg3_0).view.loc (c : Thread nD τ) ↦{fullShare} outv xg wq wo kc vc c)) -∗ Q ⟨⟩))
      ⊢ WP c (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11) Q := by
  unfold WP
  rw [cc0_body_eq_skeleton]
  unfold cc0_body_skel
  rw [wp_bind]
  iintro ⟨Hpre, Ho, Hk⟩
  iapply (run33 xg wq wo kc vc K c W) $$ Hpre
  iintro Hpost
  simp only [Prog.lift, Prog.bind_op, Prog.bind_ret, Prog.pure_eq_ret]
  iapply (wp_load 𝒱₀ (c : Thread nD τ) none Set.univ (m := Memref.whole cc0_stg3_0) (Finset.subset_univ _)) $$ Ho
  iintro Ho
  iapply (wp_store 𝒱₀ (c : Thread nD τ) none Set.univ (m := Memref.whole cc0_stg3_0) (r := Rect.unit (s := S1x256x1024) ![0, 0, 0] S1x256x1024.size inb_S1x256x1024_S1x256x1024_0_0_0) (Mk := Finset.univ) (Finset.subset_univ _)) $$ Ho
  iintro Ho
  have hw : ((Memref.whole cc0_stg3_0 : Memref sig .tc .vmem S1x256x1024 .f32).access (Rect.unit (s := S1x256x1024) ![0, 0, 0] S1x256x1024.size inb_S1x256x1024_S1x256x1024_0_0_0) : View sig .tc _ _ _).write (Elt F) o
      (outv xg wq wo kc vc c) Finset.univ = outv xg wq wo kc vc c :=
    Memref.write_access_unit_zero_univ (Elt F) cc0_stg3_0 (by funext a; fin_cases a <;> rfl) _ o _
  rw [wp_ret]
  imodintro
  iapply Hk
  isplitl [Hpost]; · iexact Hpost
  iapply (pts_of_eq (ℓ := (Memref.whole cc0_stg3_0).view.loc (c : Thread nD τ)) (q := fullShare) (g := outv xg wq wo kc vc c) hw)
  iexact Ho

end Body

end Cert.RunKernelIdeal

end
-- ==== Proof.RunKernelIdeal.Ghost.lean ====
/-
# What the launch sets up

The launch element makes, for every device, the state of its thirteen cells and the tokens of the fourteen duties paid
into them. One step over all devices allocates every cell's invariant and passes each token to the device that pays the
duty: a barrier's `false` and a receive semaphore's token to `prv`, a barrier's `true` token to `nxt`.
-/
module

public import proofs.«01_k».proof.Proof.RunKernelIdeal.Body

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Setup

variable (X : Dev nD → Vec F S1x256x1024 .bf16) (RS : Fin 3 → Dev nD → Vec F S1x256x1024 .bf16)

set_option backward.proofsInPublic true in
/-- The launch's own semaphores: DMA semaphores 4 to 19. -/
abbrev osem (i : Fin 16) : SemLoc sig := .dma (dm ⟨4 + i.val, by omega⟩)

theorem ownSemFacts : Pipeline.OwnSemFacts cfg0.spec osem := by decide

theorem csem_injective : Function.Injective csem := by decide

theorem kcell_injective : Function.Injective (kcell : Dev nD × Fin 13 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Every device's thirteen cells. -/
def ringCells : Finset (GSem nD τ sig) := Finset.univ.map ⟨kcell, kcell_injective⟩

/-- The fourteen duties of a device's cells: its barrier's two, one of each other cell. -/
abbrev tokOf (cj : Dev nD × (Fin 13 ⊕ Unit)) : GSem nD τ sig × ℕ × Bool := match cj.2 with
  | .inl k => (kcell (cj.1, k), 0, false)
  | .inr _ => (barCell cj.1, 0, true)

theorem tokOf_injective : Function.Injective (tokOf : Dev nD × (Fin 13 ⊕ Unit) → GSem nD τ sig × ℕ × Bool) := by
  rintro ⟨c, j⟩ ⟨c', j'⟩ h
  rcases j with k | u <;> rcases j' with k' | u'
  · have h1 : (c, k) = (c', k') := kcell_injective (congrArg Prod.fst h)
    rw [(Prod.mk.inj h1).1, (Prod.mk.inj h1).2]
  · exact absurd (congrArg (fun x : GSem nD τ sig × ℕ × Bool => x.2.2) h) (by simp)
  · exact absurd (congrArg (fun x : GSem nD τ sig × ℕ × Bool => x.2.2) h) (by simp)
  · have h1 : c = c' := congrArg (fun x : GSem nD τ sig × ℕ × Bool => x.1.1.1) h
    rw [h1]

def ringToks : Finset (GSem nD τ sig × ℕ × Bool) := Finset.univ.map ⟨tokOf, tokOf_injective⟩

/-- The launch element: the staging's, the ring's, and nothing of local copies. -/
def u₀ : UU :=
  (initOf (Pipeline.cells cfgs cellOf_inj) (Pipeline.launchToks cfgs cellOf_inj), (initOf ringCells ringToks, 1))

/-- The tokens of the duties paid into device `c`'s cells. -/
def toks (c : Dev nD) : sProp 𝕄 :=
  iprop((bigSep Finset.univ fun k : Fin 13 => dutyTok ER (kcell (c, k)) 0 false) ∗ dutyTok ER (barCell c) 0 true)

/-- The semaphores of the local copies, at zero. -/
def kvs (c : Dev nD) : sProp 𝕄 := kvsems (F := F) c

/-- What the launch element gives device `c`. -/
def G (c : Dev nD) : sProp 𝕄 :=
  iprop((bigSep Finset.univ fun k : Fin 13 => roundState ER (ringRd X RS) (kcell (c, k)) 0)
    ∗ (bigSep Finset.univ fun k : Fin 13 => iprop(atPos ER (kcell (c, k)) 0 ∅ 0 ∗ reached ER (kcell (c, k)) 0)) ∗ toks c)

/-- What the step over all devices makes of it. -/
def G' (c : Dev nD) : sProp 𝕄 := iprop((∃ K, ghost X RS K c) ∗ kvs (F := F) c)

omit [FloatOps F] in
theorem bigSep_fin13 (Φ : Fin 13 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

omit [FloatOps F] in
theorem bigSep_sum_unit (Φ : Fin 13 ⊕ Unit → sProp 𝕄) : bigSep Finset.univ Φ ⊢ iprop((bigSep Finset.univ fun k : Fin 13 => Φ (.inl k)) ∗ Φ (.inr ())) := by
  rw [bigSep_univ_eq_bigSepL [.inl 0, .inl 1, .inl 2, .inl 3, .inl 4, .inl 5, .inl 6, .inl 7, .inl 8, .inl 9, .inl 10, .inl 11, .inl 12, .inr ()] (by decide) (by decide) Φ, bigSep_fin13]
  show iprop(Φ (.inl 0) ∗ Φ (.inl 1) ∗ Φ (.inl 2) ∗ Φ (.inl 3) ∗ Φ (.inl 4) ∗ Φ (.inl 5) ∗ Φ (.inl 6) ∗ Φ (.inl 7) ∗ Φ (.inl 8) ∗ Φ (.inl 9) ∗ Φ (.inl 10) ∗ Φ (.inl 11) ∗ Φ (.inl 12) ∗ Φ (.inr ())) ⊢ _
  iintro ⟨H0, H1, H2, H3, H4, H5, H6, H7, H8, H9, H10, H11, H12, Ht⟩
  isplitr [Ht]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iexact Ht

theorem fund_ring : BI.own (ER (initOf ringCells ringToks)) ⊢ (|==> bigSep Finset.univ (G X RS) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => bigSep_sum_unit (F := F) _
  iintro HX
  imod (Rounds.fund ER (ringRd X RS) ringCells ringToks) $$ HX with ⟨Hst, Hr, Hat, Htok⟩
  imodintro
  ihave Hst' := (Entails.of_eq (hX fun g => roundState ER (ringRd X RS) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

omit [FloatOps F] in
/-- The launch's own semaphores, one by one; -/
theorem ownSems0_eq (c : Dev nD) : (Pipeline.ownSems0 (Ix := Unit) (Name := ℕ) (U := UU) (Lvl := ℕ) (Val := Elt F) (τ := τ) osem c : sProp 𝕄)
    = iprop(semVal (dCell c 4) 0 ∗ semVal (dCell c 5) 0 ∗ semVal (dCell c 6) 0 ∗ semVal (dCell c 7) 0 ∗ semVal (dCell c 8) 0 ∗ semVal (dCell c 9) 0 ∗ semVal (dCell c 10) 0 ∗ semVal (dCell c 11) 0 ∗ semVal (dCell c 12) 0 ∗ semVal (dCell c 13) 0 ∗ semVal (dCell c 14) 0 ∗ semVal (dCell c 15) 0 ∗ semVal (dCell c 16) 0 ∗ semVal (dCell c 17) 0 ∗ semVal (dCell c 18) 0 ∗ semVal (dCell c 19) 0) := by
  rw [Pipeline.ownSems0_eq_of_list c osem [0, 1, 2, 3, 4, 5, 6, 7, 8, 9, 10, 11, 12, 13, 14, 15] (by decide) (by decide)]; rfl
omit [FloatOps F] in
/-- the barrier semaphore is the one semaphore besides. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_split (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 13 => (semVal (kcell (c, k)) 0 : sProp 𝕄)) ∗ kvs (F := F) c) := by
  rw [ownSems0_eq, unscopedSems0_eq, bigSep_fin13]
  iintro ⟨⟨H4, H5, H6, H7, H8, H9, H10, H11, H12, H13, H14, H15, H16, H17, H18, H19⟩, HB⟩
  unfold kvs
  isplitr [H4 H5 H6 H7]
  · isplitl [HB]; · iexact HB
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  isplitl [H4]; · iexact H4
  isplitl [H5]; · iexact H5
  isplitl [H6]; · iexact H6
  iexact H7

theorem core_alloc (c : Dev nD) :
    iprop(Pipeline.ownSems0 (Ix := Unit) (Name := ℕ) (U := UU) (Lvl := ℕ) (Val := Elt F) (τ := τ) osem c ∗ unscopedSems0 c ∗ G X RS c)
      ⊢ |={Set.univ}=> iprop((bigSep Finset.univ fun k => iprop(∃ κ : ℕ, cellInv ER (ringRd X RS) κ (kcell (c, k))))
          ∗ (bigSep Finset.univ fun k => iprop(atPos ER (kcell (c, k)) 0 ∅ 0 ∗ reached ER (kcell (c, k)) 0)) ∗ toks c ∗ kvs (F := F) c) := by
  unfold G
  iintro ⟨Hos, Hus, Hst, Hat, Htok⟩
  ihave Hv := (sems0_split (F := F) c) $$ [Hos Hus]
  · isplitl [Hos] <;> iassumption
  icases Hv with ⟨Hv, Hkv⟩
  imod (show iprop((bigSep Finset.univ fun k : Fin 13 => semVal (kcell (c, k)) 0) ∗ bigSep Finset.univ fun k : Fin 13 => roundState ER (ringRd X RS) (kcell (c, k)) 0)
      ⊢ (|={Set.univ}=> bigSep Finset.univ fun k => iprop(∃ κ : ℕ, cellInv ER (ringRd X RS) κ (kcell (c, k))) : sProp 𝕄) from by
        rw [← bigSep_sep']
        exact (bigSep_mono fun k _ => (Rounds.body_intro ER (ringRd X RS) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hkv

/-- What every device knows: the invariants of all cells, and that each is at its first round. -/
def records (K : Dev nD × Fin 13 → ℕ) : sProp 𝕄 :=
  iprop((bigSep Finset.univ fun ck : Dev nD × Fin 13 => cellInv ER (ringRd X RS) (K ck) (kcell ck))
    ∗ bigSep Finset.univ fun ck : Dev nD × Fin 13 => reached ER (kcell ck) 0)

instance records_persistent (K : Dev nD × Fin 13 → ℕ) : BI.Persistent (records X RS K) := by unfold records; infer_instance

theorem inv_at (K : Dev nD × Fin 13 → ℕ) (ck : Dev nD × Fin 13) :
    (bigSep Finset.univ fun ck : Dev nD × Fin 13 => (cellInv ER (ringRd X RS) (K ck) (kcell ck) : sProp 𝕄)) ⊢ cellInv ER (ringRd X RS) (K ck) (kcell ck) :=
  bigSep_elim (Finset.mem_univ ck)
omit [FloatOps F] in
theorem reached_at (ck : Dev nD × Fin 13) :
    (bigSep Finset.univ fun ck : Dev nD × Fin 13 => (reached ER (kcell ck) 0 : sProp 𝕄)) ⊢ reached ER (kcell ck) 0 :=
  bigSep_elim (Finset.mem_univ ck)

/-- The tokens of the duties device `c` pays. -/
def payToks (c : Dev nD) : sProp 𝕄 :=
  iprop(dutyTok ER (barCell (nxt c)) 0 false
    ∗ dutyTok ER (dCell c 8) 0 false ∗ dutyTok ER (dCell c 9) 0 false ∗ dutyTok ER (dCell c 10) 0 false ∗ dutyTok ER (dCell (nxt c) 11) 0 false ∗ dutyTok ER (dCell (nxt c) 12) 0 false ∗ dutyTok ER (dCell (nxt c) 13) 0 false ∗ dutyTok ER (dCell c 14) 0 false ∗ dutyTok ER (dCell c 15) 0 false ∗ dutyTok ER (dCell c 16) 0 false ∗ dutyTok ER (dCell (nxt c) 17) 0 false ∗ dutyTok ER (dCell (nxt c) 18) 0 false ∗ dutyTok ER (dCell (nxt c) 19) 0 false
    ∗ dutyTok ER (barCell (prv c)) 0 true)
/-- Its places at its cells. -/
def places (c : Dev nD) : sProp 𝕄 := iprop(atPos ER (barCell c) 0 ∅ 0 ∗ atPos ER (dCell c 8) 0 ∅ 0 ∗ atPos ER (dCell c 9) 0 ∅ 0 ∗ atPos ER (dCell c 10) 0 ∅ 0 ∗ atPos ER (dCell c 11) 0 ∅ 0 ∗ atPos ER (dCell c 12) 0 ∅ 0 ∗ atPos ER (dCell c 13) 0 ∅ 0 ∗ atPos ER (dCell c 14) 0 ∅ 0 ∗ atPos ER (dCell c 15) 0 ∅ 0 ∗ atPos ER (dCell c 16) 0 ∅ 0 ∗ atPos ER (dCell c 17) 0 ∅ 0 ∗ atPos ER (dCell c 18) 0 ∅ 0 ∗ atPos ER (dCell c 19) 0 ∅ 0)
/-- What device `c` alone holds: its places, the tokens it pays with, the semaphores of its local copies. -/
def linear (c : Dev nD) : sProp 𝕄 :=
  iprop(places c ∗ payToks c ∗ kvs (F := F) c)

theorem ghost_intro (K : Dev nD × Fin 13 → ℕ) (c : Dev nD) : iprop(records X RS K ∗ linear c) ⊢ G' X RS c := by
  unfold records linear places payToks G' ghost barTok hop toWaitS
  iintro ⟨⟨#HI, #HR⟩, ⟨HaB, Ha8, Ha9, Ha10, Ha11, Ha12, Ha13, Ha14, Ha15, Ha16, Ha17, Ha18, Ha19⟩, ⟨HtB, Ht8, Ht9, Ht10, Ht11, Ht12, Ht13, Ht14, Ht15, Ht16, Ht17, Ht18, Ht19, HtP⟩, Hkv⟩
  isplitr [Hkv]
  · iexists K
    isplitl [HaB HtB HtP]
    · isplitr; · iapply (inv_at X RS K (c, 0)); iexact HI
      isplitr; · iapply (inv_at X RS K (prv c, 0)); iexact HI
      isplitr; · iapply (inv_at X RS K (nxt c, 0)); iexact HI
      isplitl [HaB]; · iexact HaB
      isplitl [HtP]; · iexact HtP
      isplitr; · iapply (reached_at (F := F) (prv c, 0)); iexact HR
      isplitl [HtB]; · iexact HtB
      iapply (reached_at (F := F) (nxt c, 0)); iexact HR
    isplitl [Ht8 Ht11]
    · isplitr; · iapply (inv_at X RS K (c, 1)); iexact HI
      isplitr; · iapply (inv_at X RS K (nxt c, 4)); iexact HI
      isplitl [Ht8]; · iexact Ht8
      isplitr; · iapply (reached_at (F := F) (c, 1)); iexact HR
      isplitl [Ht11]; · iexact Ht11
      iapply (reached_at (F := F) (nxt c, 4)); iexact HR
    isplitl [Ht9 Ht12]
    · isplitr; · iapply (inv_at X RS K (c, 2)); iexact HI
      isplitr; · iapply (inv_at X RS K (nxt c, 5)); iexact HI
      isplitl [Ht9]; · iexact Ht9
      isplitr; · iapply (reached_at (F := F) (c, 2)); iexact HR
      isplitl [Ht12]; · iexact Ht12
      iapply (reached_at (F := F) (nxt c, 5)); iexact HR
    isplitl [Ht10 Ht13]
    · isplitr; · iapply (inv_at X RS K (c, 3)); iexact HI
      isplitr; · iapply (inv_at X RS K (nxt c, 6)); iexact HI
      isplitl [Ht10]; · iexact Ht10
      isplitr; · iapply (reached_at (F := F) (c, 3)); iexact HR
      isplitl [Ht13]; · iexact Ht13
      iapply (reached_at (F := F) (nxt c, 6)); iexact HR
    isplitl [Ht14 Ht17]
    · isplitr; · iapply (inv_at X RS K (c, 7)); iexact HI
      isplitr; · iapply (inv_at X RS K (nxt c, 10)); iexact HI
      isplitl [Ht14]; · iexact Ht14
      isplitr; · iapply (reached_at (F := F) (c, 7)); iexact HR
      isplitl [Ht17]; · iexact Ht17
      iapply (reached_at (F := F) (nxt c, 10)); iexact HR
    isplitl [Ht15 Ht18]
    · isplitr; · iapply (inv_at X RS K (c, 8)); iexact HI
      isplitr; · iapply (inv_at X RS K (nxt c, 11)); iexact HI
      isplitl [Ht15]; · iexact Ht15
      isplitr; · iapply (reached_at (F := F) (c, 8)); iexact HR
      isplitl [Ht18]; · iexact Ht18
      iapply (reached_at (F := F) (nxt c, 11)); iexact HR
    isplitl [Ht16 Ht19]
    · isplitr; · iapply (inv_at X RS K (c, 9)); iexact HI
      isplitr; · iapply (inv_at X RS K (nxt c, 12)); iexact HI
      isplitl [Ht16]; · iexact Ht16
      isplitr; · iapply (reached_at (F := F) (c, 9)); iexact HR
      isplitl [Ht19]; · iexact Ht19
      iapply (reached_at (F := F) (nxt c, 12)); iexact HR
    isplitl [Ha8]
    · isplitr; · iapply (inv_at X RS K (c, 1)); iexact HI
      iexact Ha8
    isplitl [Ha9]
    · isplitr; · iapply (inv_at X RS K (c, 2)); iexact HI
      iexact Ha9
    isplitl [Ha10]
    · isplitr; · iapply (inv_at X RS K (c, 3)); iexact HI
      iexact Ha10
    isplitl [Ha11]
    · isplitr; · iapply (inv_at X RS K (c, 4)); iexact HI
      iexact Ha11
    isplitl [Ha12]
    · isplitr; · iapply (inv_at X RS K (c, 5)); iexact HI
      iexact Ha12
    isplitl [Ha13]
    · isplitr; · iapply (inv_at X RS K (c, 6)); iexact HI
      iexact Ha13
    isplitl [Ha14]
    · isplitr; · iapply (inv_at X RS K (c, 7)); iexact HI
      iexact Ha14
    isplitl [Ha15]
    · isplitr; · iapply (inv_at X RS K (c, 8)); iexact HI
      iexact Ha15
    isplitl [Ha16]
    · isplitr; · iapply (inv_at X RS K (c, 9)); iexact HI
      iexact Ha16
    isplitl [Ha17]
    · isplitr; · iapply (inv_at X RS K (c, 10)); iexact HI
      iexact Ha17
    isplitl [Ha18]
    · isplitr; · iapply (inv_at X RS K (c, 11)); iexact HI
      iexact Ha18
    isplitr; · iapply (inv_at X RS K (c, 12)); iexact HI
    iexact Ha19
  iexact Hkv

omit [FloatOps F] in
/-- The tokens passed around the ring. -/
theorem toks_around : (bigSep Finset.univ fun c : Dev nD => (toks c : sProp 𝕄)) ⊢ bigSep Finset.univ fun c : Dev nD => payToks c := by
  have h : (fun c : Dev nD => (toks c : sProp 𝕄)) = fun c => iprop((dutyTok ER (barCell c) 0 false
    ∗ dutyTok ER (dCell c 8) 0 false ∗ dutyTok ER (dCell c 9) 0 false ∗ dutyTok ER (dCell c 10) 0 false ∗ dutyTok ER (dCell c 11) 0 false ∗ dutyTok ER (dCell c 12) 0 false ∗ dutyTok ER (dCell c 13) 0 false ∗ dutyTok ER (dCell c 14) 0 false ∗ dutyTok ER (dCell c 15) 0 false ∗ dutyTok ER (dCell c 16) 0 false ∗ dutyTok ER (dCell c 17) 0 false ∗ dutyTok ER (dCell c 18) 0 false ∗ dutyTok ER (dCell c 19) 0 false) ∗ dutyTok ER (barCell c) 0 true) := by
    funext c; unfold toks; rw [bigSep_fin13]; rfl
  rw [h]
  unfold payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (dutyTok ER (dCell c 11) 0 false : sProp 𝕄)),
    bigSep_univ_equiv ring (fun c : Dev nD => (dutyTok ER (dCell c 12) 0 false : sProp 𝕄)),
    bigSep_univ_equiv ring (fun c : Dev nD => (dutyTok ER (dCell c 13) 0 false : sProp 𝕄)),
    bigSep_univ_equiv ring (fun c : Dev nD => (dutyTok ER (dCell c 17) 0 false : sProp 𝕄)),
    bigSep_univ_equiv ring (fun c : Dev nD => (dutyTok ER (dCell c 18) 0 false : sProp 𝕄)),
    bigSep_univ_equiv ring (fun c : Dev nD => (dutyTok ER (dCell c 19) 0 false : sProp 𝕄))]
  iintro ⟨⟨HB, H8, H9, H10, H11, H12, H13, H14, H15, H16, H17, H18, H19⟩, HT⟩
  isplitl [HB]; · iexact HB
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact HT

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd X RS) κ (kcell (c, k))))
          ∗ (bigSep Finset.univ fun k => iprop(atPos ER (kcell (c, k)) 0 ∅ 0 ∗ reached ER (kcell (c, k)) 0)) ∗ toks c ∗ kvs (F := F) c) : sProp 𝕄)
      ⊢ bigSep Finset.univ (G' X RS) := by
  rw [bigSep_sep', bigSep_sep', bigSep_sep', ← bigSep_univ_prod (fun ck : Dev nD × Fin 13 => iprop(∃ κ : ℕ, cellInv ER (ringRd X RS) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok, Hkv⟩
  ihave HK := (BI.bigSep_exists_pi Finset.univ (fun (ck : Dev nD × Fin 13) (κ : ℕ) => (cellInv ER (ringRd X RS) κ (kcell ck) : sProp 𝕄))) $$ HI
  icases HK with ⟨%K, #HI⟩
  ihave Htk := (toks_around (F := F)) $$ Htok
  iapply (bigSep_with (R := records X RS K) fun c _ => ghost_intro X RS K c)
  isplitr
  · unfold records; isplitl; · iexact HI
    iexact HR
  · unfold linear
    rw [bigSep_sep', bigSep_sep']
    isplitl [Hat]
    · iapply (Entails.of_eq (bigSep_congr fun (c : Dev nD) _ => show (bigSep Finset.univ fun k : Fin 13 => (atPos ER (kcell (c, k)) 0 ∅ 0 : sProp 𝕄)) = places c by
        rw [bigSep_fin13]; rfl)) $$ Hat
    isplitl [Htk]; · iexact Htk
    iexact Hkv

/-- The step over all devices. -/
theorem glob : (bigSep Finset.univ fun c => iprop(Pipeline.ownSems0 (Ix := Unit) (Name := ℕ) (U := UU) (Lvl := ℕ) (Val := Elt F) (τ := τ) osem c ∗ unscopedSems0 c ∗ G X RS c) : sProp 𝕄)
    ⊢ |={Set.univ}=> bigSep Finset.univ (G' X RS) :=
  ((bigSep_mono fun c _ => core_alloc X RS c).trans (bigSep_fupd _ _)).trans (BI.fupd_mono (regroup X RS))

end Setup

/-! ## The launch credit -/

theorem bar_eq_iff {a b : Dev nD} : Iff (barCell a = barCell b) (a = b) :=
  ⟨fun h => congrArg (fun g : GSem nD τ sig => g.1.1) h, fun h => h ▸ rfl⟩
theorem dcell_eq_iff {a b : Dev nD} {n k : Fin 20} : Iff (dCell a n = dCell b k) (a = b ∧ n = k) :=
  ⟨fun h => ⟨congrArg (fun g : GSem nD τ sig => g.1.1) h, Fin.ext (Fin.ext_iff.mp (SemLoc.dma.inj (congrArg Prod.snd h)))⟩, fun h => by rw [h.1, h.2]⟩
theorem bar_ne_dcell {a b : Dev nD} {n : Fin 20} : barCell a ≠ dCell b n := fun h => by have := congrArg Prod.snd h; cases this
theorem nxt_eq_iff {c d : Dev nD} : Iff (c = nxt d) (d = prv c) := ⟨fun h => by rw [h, prv_nxt], fun h => by rw [h, nxt_prv]⟩
theorem prv_eq_iff {c d : Dev nD} : Iff (c = prv d) (d = nxt c) := ⟨fun h => by rw [h, nxt_prv], fun h => by rw [h, prv_nxt]⟩

/-- What is owed to a cell, target by target. -/
theorem owe_apply (d : Dev nD) (k : ℕ) (g : GSem nD τ sig) : owe d k g () = ∑ j ∈ Finset.range k, if g = target d j then pays j else 0 := by
  induction k with
  | zero => rfl
  | succ k ih =>
    unfold owe
    rw [Pi.add_apply, Finsupp.add_apply, tallyAt_apply, ih, Finset.sum_range_succ]
    simp only [and_true]

/-- What device `d` owes device `c`'s barrier: a unit from either side. -/
theorem owed_bar (d c : Dev nD) : owe d 8 (barCell c) () = (if d = prv c then 1 else 0) + (if d = nxt c then 1 else 0) := by
  rw [owe_apply]
  simp only [Finset.sum_range_succ, Finset.sum_range_zero]
  rw [if_neg (show ¬ barCell c = target d 0 from bar_ne_dcell), if_neg (show ¬ barCell c = target d 1 from bar_ne_dcell), if_neg (show ¬ barCell c = target d 2 from bar_ne_dcell),
    if_neg (show ¬ barCell c = target d 3 from bar_ne_dcell), if_neg (show ¬ barCell c = target d 4 from bar_ne_dcell), if_neg (show ¬ barCell c = target d 5 from bar_ne_dcell)]
  simp only [Nat.zero_add]
  refine congrArg₂ (· + ·) (if_congr (show barCell c = barCell (nxt d) ↔ _ from bar_eq_iff.trans nxt_eq_iff) rfl rfl) (if_congr (show barCell c = barCell (prv d) ↔ _ from bar_eq_iff.trans prv_eq_iff) rfl rfl)

/-- What device `d` owes a receive semaphore of device `c`: a block, if it comes before `c`. -/
theorem owed_recv (n : Fin 20) (j : ℕ) (hj : j < 6) (hn : ∀ d, target d j = dCell (nxt d) n) (ho : ∀ i < 8, i ≠ j → ∀ c d : Dev nD, dCell c n ≠ target d i) (d c : Dev nD) :
    owe d 8 (dCell c n) () = if d = prv c then N else 0 := by
  rw [owe_apply, Finset.sum_eq_single_of_mem j (Finset.mem_range.mpr (by omega)) (fun i hi hij => if_neg (ho i (Finset.mem_range.mp hi) hij c d)), hn d]
  refine if_congr (dcell_eq_iff.trans ⟨fun h => nxt_eq_iff.mp h.1, fun h => ⟨nxt_eq_iff.mpr h, rfl⟩⟩) ?_ rfl
  unfold pays; rw [if_pos hj]

theorem other_targets (n : Fin 20) (j : ℕ) (hn : ∀ p ∈ ([(0, 19), (1, 18), (2, 17), (3, 13), (4, 12), (5, 11)] : List (ℕ × Fin 20)), p.1 ≠ j → n ≠ p.2) :
    ∀ i < 8, i ≠ j → ∀ c d : Dev nD, dCell c n ≠ target d i := by
  intro i hi hij c d h
  rcases i with _ | _ | _ | _ | _ | _ | _ | i
  · exact hn (0, 19) (by decide) hij (dcell_eq_iff.mp (show dCell c n = dCell (nxt d) 19 from h)).2
  · exact hn (1, 18) (by decide) hij (dcell_eq_iff.mp (show dCell c n = dCell (nxt d) 18 from h)).2
  · exact hn (2, 17) (by decide) hij (dcell_eq_iff.mp (show dCell c n = dCell (nxt d) 17 from h)).2
  · exact hn (3, 13) (by decide) hij (dcell_eq_iff.mp (show dCell c n = dCell (nxt d) 13 from h)).2
  · exact hn (4, 12) (by decide) hij (dcell_eq_iff.mp (show dCell c n = dCell (nxt d) 12 from h)).2
  · exact hn (5, 11) (by decide) hij (dcell_eq_iff.mp (show dCell c n = dCell (nxt d) 11 from h)).2
  · exact bar_ne_dcell (show barCell (nxt d) = dCell c n from h.symm)
  · exact bar_ne_dcell (show barCell (prv d) = dCell c n from h.symm)

omit [FloatOps F] in
theorem launch_bar (c : Dev nD) :
    tallyOn (barCell c) (launchCredit (Pipeline.owing fun d => owe d 8) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

omit [FloatOps F] in
theorem launch_recv (n : Fin 20) (h : ∀ d c : Dev nD, owe d 8 (dCell c n) () = if d = prv c then N else 0) (c : Dev nD) :
    tallyOn (dCell c n) (launchCredit (Pipeline.owing fun d => owe d 8) 0 (dCell c n)) = (tallyAt (dCell c n) () N : CellTallies nD τ sig Unit) := by
  unfold tallyAt; refine congrArg _ (Finsupp.ext fun u => ?_); cases u
  rw [Pipeline.launchCredit_owing, Finsupp.single_eq_same, Finset.sum_congr rfl fun d _ => h d c, Finset.sum_ite_eq' Finset.univ (prv c) fun _ => N,
    if_pos (Finset.mem_univ _)]

theorem owed_19 (d c : Dev nD) : owe d 8 (dCell c 19) () = if d = prv c then N else 0 := owed_recv 19 0 (by decide) (fun _ => rfl) (other_targets 19 0 (by decide)) d c
theorem owed_18 (d c : Dev nD) : owe d 8 (dCell c 18) () = if d = prv c then N else 0 := owed_recv 18 1 (by decide) (fun _ => rfl) (other_targets 18 1 (by decide)) d c
theorem owed_17 (d c : Dev nD) : owe d 8 (dCell c 17) () = if d = prv c then N else 0 := owed_recv 17 2 (by decide) (fun _ => rfl) (other_targets 17 2 (by decide)) d c
theorem owed_13 (d c : Dev nD) : owe d 8 (dCell c 13) () = if d = prv c then N else 0 := owed_recv 13 3 (by decide) (fun _ => rfl) (other_targets 13 3 (by decide)) d c
theorem owed_12 (d c : Dev nD) : owe d 8 (dCell c 12) () = if d = prv c then N else 0 := owed_recv 12 4 (by decide) (fun _ => rfl) (other_targets 12 4 (by decide)) d c
theorem owed_11 (d c : Dev nD) : owe d 8 (dCell c 11) () = if d = prv c then N else 0 := owed_recv 11 5 (by decide) (fun _ => rfl) (other_targets 11 5 (by decide)) d c

omit [FloatOps F] in
/-- The credits of device `c`'s cells, from what the others owe it. -/
theorem creds (c : Dev nD) : (Pipeline.launchCred (fun d => owe d 8) c : sProp 𝕄) ⊢ credits c := by
  unfold Pipeline.launchCred credits
  refine BIBase.Entails.trans (bigSep_subset (Finset.subset_univ ([.reg barS, .dma (dm 11), .dma (dm 12), .dma (dm 13), .dma (dm 17), .dma (dm 18), .dma (dm 19)] : List (SemLoc sig)).toFinset)) ?_
  rw [bigSep_eq_bigSepL_of_eq ([.reg barS, .dma (dm 11), .dma (dm 12), .dma (dm 13), .dma (dm 17), .dma (dm 18), .dma (dm 19)] : List (SemLoc sig)) rfl (by decide),
    ← launch_bar c, ← launch_recv 11 owed_11 c, ← launch_recv 12 owed_12 c, ← launch_recv 13 owed_13 c, ← launch_recv 17 owed_17 c, ← launch_recv 18 owed_18 c, ← launch_recv 19 owed_19 c]
  exact Entails.of_eq rfl

end Cert.RunKernelIdeal

end
-- ==== Proof.RunKernelIdeal.Launch.lean ====
/-
# The launch

The staged blocks are read off the launch memory; with them `run_body` is the body's obligation, and the launch theorem
gives the run of the whole program: every execution ends, the arguments are as before, every counter is zero, and the
result on device `c` is `outv … c`.
-/
module

public import proofs.«01_k».proof.Proof.RunKernelIdeal.Ghost
public import Idealize.ShloMosaic.Lib.Pipeline.CollectiveSegs

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The machine at the launch. -/
abbrev s₀ : MemSt nD τ sig (Elt F) := ⟨m, fun _ => 0, ρ⟩

/-- Device `c`'s rows of `x`, -/
def xst (c : Dev nD) : Vec F S1x256x1024 .bf16 := (win0_0.blk (0 : Fin 1)).view.read (Elt F) (m ((c : Thread nD τ).loc main_arg0))
/-- its columns of `Wq`, -/
def wqst (c : Dev nD) : Vec F S1024x1024 .bf16 := (win0_1.blk (0 : Fin 1)).view.read (Elt F) (m ((c : Thread nD τ).loc main_arg1))
/-- its rows of `Wo`, -/
def wost (c : Dev nD) : Vec F S1024x1024 .bf16 := (win0_2.blk (0 : Fin 1)).view.read (Elt F) (m ((c : Thread nD τ).loc main_arg4))
/-- and its copies of `K` and `V`. -/
def kst (c : Dev nD) : main_arg2.ty.Contents (Elt F) := m ((c : Thread nD τ).loc main_arg2)
def vst (c : Dev nD) : main_arg3.ty.Contents (Elt F) := m ((c : Thread nD τ).loc main_arg3)

/-- The block of the result device `c` computes from the launch memory. -/
def outst (c : Dev nD) : Vec F S1x256x1024 .f32 := outv (xst m) (wqst m) (wost m) (kst m) (vst m) c

/-- The gathered blocks and the reduction's hops, at the launch memory. -/
abbrev Xm : Dev nD → Vec F S1x256x1024 .bf16 := Xv (xst m)
abbrev RSm : Fin 3 → Dev nD → Vec F S1x256x1024 .bf16 := RSv (xst m) (wqst m) (wost m) (kst m) (vst m)

/-- `K` and `V` in the device's memory. -/
def kvPts (c : Dev nD) : sProp 𝕄 := iprop(((c : Thread nD τ).loc main_arg2 ↦{fullShare} m ((c : Thread nD τ).loc main_arg2))
  ∗ ((c : Thread nD τ).loc main_arg3 ↦{fullShare} m ((c : Thread nD τ).loc main_arg3)))

/-- What the launch hands device `c`, -/
def start (c : Dev nD) : sProp 𝕄 := iprop(levAts L lv ∗ G' (Xm m) (RSm m) c ∗ credits c ∗ kvPts m c)
/-- with its scratch buffers; -/
def Φ₀ (c : Dev nD) : sProp 𝕄 := iprop(start m c ∗ scratches (F := F) c)
/-- what it has at the end. -/
def Φ₁ (c : Dev nD) : sProp 𝕄 := iprop(ringZero (F := F) c ∗ kvsems (F := F) c ∗ kvPts m c ∗ scratches (F := F) c)

def dats (_ : Fin 1) (c : Dev nD) : Dat τ (Elt F) Unit ℕ UU ℕ cfg0 c where
  A w := m ((cfg0.win w).arr.view.loc (c : Thread nD τ))
  after w _ := match w with
    | ⟨0, _⟩ => xst m c
    | ⟨1, _⟩ => wqst m c
    | ⟨2, _⟩ => wost m c
    | ⟨3, _⟩ => outst m c
  Φ t := match t with
    | ⟨0, _⟩ => Φ₀ m c
    | ⟨_ + 1, _⟩ => Φ₁ m c
  q _ := fullShare
  owed t := match t with
    | ⟨0, _⟩ => owe c 8
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- A staging buffer holding `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost (c : Dev nD) : sProp 𝕄 :=
  iprop(Φ₁ m c ∗ (dats m 0 c).owesAt () t0_0.succ ∗ stg c cc0_stg0_0 (xst m c) ∗ stg c cc0_stg1_0 (wqst m c) ∗ stg c cc0_stg2_0 (wost m c) ∗ stg c cc0_stg3_0 (outst m c))

theorem before_0 (c : Dev nD) (d) : (dats m 0 c).before (0 : Fin 4) t0_0 d = xst m c := by
  unfold Dat.before; rw [if_pos (show (cfg0.win (0 : Fin 4)).fetch t0_0 = true from rfl)]; rfl
theorem before_1 (c : Dev nD) (d) : (dats m 0 c).before (1 : Fin 4) t0_0 d = wqst m c := by
  unfold Dat.before; rw [if_pos (show (cfg0.win (1 : Fin 4)).fetch t0_0 = true from rfl)]; rfl
theorem before_2 (c : Dev nD) (d) : (dats m 0 c).before (2 : Fin 4) t0_0 d = wost m c := by
  unfold Dat.before; rw [if_pos (show (cfg0.win (2 : Fin 4)).fetch t0_0 = true from rfl)]; rfl

theorem body_pre_post (c : Dev nD) : bodyPre m c ⊢ WP c (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11) (fun _ => bodyPost m c) := by
  unfold bodyPre Φ₀ start G' kvPts stg
  iintro ⟨⟨⟨#HL, ⟨⟨%K, Hg⟩, Hkvs⟩, HC, HK, HV⟩, Hscr⟩, Ho, ⟨%d0, %g0, %hg0, Hx⟩, ⟨%d1, %g1, %hg1, Hwq⟩, ⟨%d2, %g2, %hg2, Hwo⟩, ⟨%d3, %g3, %hg3, Hout⟩⟩
  rw [before_0] at hg0
  rw [before_1] at hg1
  rw [before_2] at hg2
  subst hg0 hg1 hg2
  unfold Dat.owesAt Pipeline.owesWithin
  icases Ho with ⟨%W, %hW, HO⟩
  iapply (run_body (xst m) (wqst m) (wost m) (kst m) (vst m) K c W g3 (fun _ => bodyPost m c))
  unfold pre33
  isplitl [HO Hg Hkvs HC HK HV Hscr Hx Hwq Hwo]
  · isplitr; · iexact HL
    isplitl [HO]; · iexact HO
    isplitl [Hg]; · iexact Hg
    isplitl [HC]; · iexact HC
    isplitl [Hscr]; · iexact Hscr
    isplitl [Hkvs]; · unfold kvs; iexact Hkvs
    isplitl [HK]; · iexact HK
    isplitl [HV]; · iexact HV
    isplitl [Hx]; · iexact Hx
    isplitl [Hwq]; · iexact Hwq
    iexact Hwo
  isplitl [Hout]; · iexact Hout
  unfold post33 bodyPost Φ₁ kvPts stg
  iintro ⟨⟨⟨%W', HO⟩, Hz, Hscr, Hkvs, HK, HV, Hx, Hwq, Hwo⟩, Hout⟩
  isplitl [Hz Hscr Hkvs HK HV]
  · isplitl [Hz]; · iexact Hz
    isplitl [Hkvs]; · iexact Hkvs
    isplitl [HK HV]
    · isplitl [HK]; · iexact HK
      iexact HV
    iexact Hscr
  isplitl [HO]
  · unfold Dat.owesAt Pipeline.owesWithin
    iexists W'
    isplitr; · ipureintro; exact fun _ _ => Or.inl trivial
    iexact HO
  isplitl [Hx]
  · iexists _; isplitr; · ipureintro; rfl
    iexact Hx
  isplitl [Hwq]
  · iexists _; isplitr; · ipureintro; rfl
    iexact Hwq
  isplitl [Hwo]
  · iexists _; isplitr; · ipureintro; rfl
    iexact Hwo
  iexists _; isplitr; · ipureintro; rfl
  iexact Hout

set_option maxRecDepth 4000 in
/-- The body's obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole]
  exact body_pre_post m c

/-! ## The launch's side conditions -/

theorem share_eq (c : Dev nD) (w : Fin cfg0.W) : (dats m 0 c).share w = fullShare := by unfold Dat.share; split <;> rfl

omit [FloatOps F] in
theorem restP_eq (c : Dev nD) (V : (b : Ref sig .tc) → Buf (Elt F) ((c : Thread nD τ).loc b)) :
    (Pipeline.unscopedRestP (Ix := Unit) (Name := ℕ) (U := UU) (Lvl := ℕ) Pipeline.Prefetch.none cfg0.spec c V : sProp 𝕄)
      = iprop(((c : Thread nD τ).loc main_arg2 ↦{fullShare} V main_arg2) ∗ ((c : Thread nD τ).loc main_arg3 ↦{fullShare} V main_arg3)) :=
  (Pipeline.unscopedRestP_none _ c V).trans (unscopedRest0_eq c V)

theorem start_intro (c : Dev nD) :
    iprop(Pipeline.unscopedRestP Pipeline.Prefetch.none cfg0.spec c (fun b => m ((c : Thread nD τ).loc b)) ∗ levAts L lv
        ∗ Pipeline.launchCred (fun d => owe d 8) c ∗ prngReg c (ρ c) ∗ G' (Xm m) (RSm m) c)
      ⊢ |={Set.univ}=> iprop(start m c ∗ emp) := by
  rw [restP_eq]
  iintro ⟨Hkv, Hlev, Hcr, -, HG⟩
  ihave Hc := (creds (F := F) c) $$ Hcr
  imodintro
  unfold start kvPts
  isplitl
  · isplitl [Hlev]; · iexact Hlev
    isplitl [HG]; · iexact HG
    isplitl [Hc]; · iexact Hc
    iexact Hkv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratches
  iintro ⟨Hs, -, Hr⟩
  isplitl [Hs]; · iexact Hs
  iexact Hr

theorem phi1_exit (c : Dev nD) :
    (dats m 0 c).Φ (Fin.last cfg0.N) ⊢ iprop((unscopedSems0 c ∗ kvPts m c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ scratches ringZero
  iintro ⟨⟨HB, Hz⟩, ⟨H4, H5, H6, H7⟩, Hkv, Hr⟩
  isplitl [HB Hkv]
  · isplitl [HB]; · iexact HB
    iexact Hkv
  isplitl [H4 H5 H6 H7 Hz]
  · isplitl [H4]; · iexact H4
    isplitl [H5]; · iexact H5
    isplitl [H6]; · iexact H6
    isplitl [H7]; · iexact H7
    iexact Hz
  iexact Hr

theorem mayWait_stage (c : Dev nD) (q : DmaSem sig) (hq : q.val < 4) (O : CellTallies nD τ sig Unit) (hO : O = owe c 8 ∨ O = 0) :
    (levAts L lv : sProp 𝕄) ⊢ MayWait (c : Thread nD τ) (.dma q) () O := by
  rcases hO with rfl | rfl
  · refine mayWait c (.dma q) 8 fun j hj => ?_
    show lvD q.val < lvT j
    have h0 : lvD q.val = 0 := by unfold lvD; rw [if_neg (by omega), if_neg (by omega)]
    rw [h0]; unfold lvT; split <;> omega
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

omit [FloatOps F] in
/-- The launch element is the staging's part and the ring's. -/
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-! ## The run -/

/-- What the window `w`'s array holds at the end. -/
def finalA (c : Dev nD) (w : Fin cfg0.W) : Buf (Elt F) ((cfg0.win w).arr.view.loc (c : Thread nD τ)) := (dats m 0 c).arrAt w cfg0.N

/-- `K` and `V` are as before. -/
def kvKept (c : Dev nD) (s : MemSt nD τ sig (Elt F)) : Prop :=
  s.mem ((c : Thread nD τ).loc main_arg2) = m ((c : Thread nD τ).loc main_arg2) ∧ s.mem ((c : Thread nD τ).loc main_arg3) = m ((c : Thread nD τ).loc main_arg3)

/-- Every window's array ends as computed; `K` and `V` are as before. -/
def Ends : PUnit × MemSt nD τ sig (Elt F) → Prop := fun r =>
  ∀ c : Dev nD, (∀ w : Fin cfg0.W, r.2.mem ((cfg0.win w).arr.view.loc (c : Thread nD τ)) = finalA m c w) ∧ kvKept m c r.2

set_option maxRecDepth 8000 in
/-- Every execution of the program from the launch memory ends, with the arrays as computed and every counter at zero. -/
theorem run_main : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := fun d => owe d 8) (howed₀ := fun _ => rfl) (howedN := fun _ => rfl)
    (L := L) (lv := lv) (hL := L_of_ne) (hwaits := waits m)
    (G := G (Xm m) (RSm m)) (G' := G' (Xm m) (RSm m)) (u₀ := u₀)
    (hu₀ := by
      unfold u₀
      iintro Hu
      ihave H := (ownU_split (F := F) _ _) $$ Hu
      icases H with ⟨HP, HX⟩
      imod (fund_ring (F := F) (Xm m) (RSm m)) $$ HX with HG
      imodintro
      isplitl [HP] <;> iassumption)
    (hglob := glob (Xm m) (RSm m))
    (hA := fun _ _ => rfl) (hpf := fun _ k => k.elim0)
    (X := start m) (Y := fun c => iprop(unscopedSems0 c ∗ kvPts m c)) (Z := fun _ => iprop(emp))
    (hX := start_intro m ρ) (hin := phi0_intro m) (hout := phi1_exit m)
    (QY := fun c s => kvKept m c s ∧ ∀ sm : SemLoc sig, sm.isScoped .tc = false → s.sem ((c.tc : Thread nD τ), sm) = 0)
    (hY := fun c s' => by
      unfold kvPts kvKept
      iintro ⟨⟨Hu, HK, HV⟩, -, HSI⟩
      icombine HSI HK gives %hk
      icombine HSI HV gives %hv
      ihave H := (Pipeline.unscopedSems0_read (X := unscopedSems0 c) (c := c) fupd_intro s') $$ [Hu HSI]
      · isplitl [Hu] <;> iassumption
      imod H with ⟨%hs, HSI⟩
      imodintro
      isplitr
      · ipureintro; exact ⟨⟨Buf.eq_of_forall_mem_univ hk, Buf.eq_of_forall_mem_univ hv⟩, hs⟩
      iexact HSI)
    (hQ := fun _ h hs => ⟨fun c => ⟨(h c).1, (h c).2.2.1⟩, sem_eq_zero hs fun c => (h c).2.2.2⟩)

/-- An argument's array ends as it began. -/
theorem finalA_in (c : Dev nD) (w : Fin cfg0.W) (hw : (cfg0.win w).isOut = false) :
    finalA m c w = m ((cfg0.win w).arr.view.loc (c : Thread nD τ)) :=
  (dats (F := F) m 0 c).arrAt_in w hw _

/-- The run, argument by argument. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (finalA_in m c 0 rfl), ((h.1 c).1 1).trans (finalA_in m c 1 rfl),
    (h.1 c).2.1, (h.1 c).2.2, ((h.1 c).1 2).trans (finalA_in m c 2 rfl)⟩, h.2⟩) (run_main m ρ)

end Cert.RunKernelIdeal

end
-- ==== Proof.Value.Spec.lean ====
/-
# Attention of one head, as a formula

The softmax of a row of masked, scaled products, and the head's output at one feature.
-/
module

public import Idealize.ShloMosaic.Lib.Pointwise

@[expose] public section

noncomputable section

namespace Cert.Value

open Idealize.ShloMosaic

/-- Whether a block of queries sees a block of keys, by the blocks' numbers: the same block, the first block of keys, or
    numbers whose sum is a multiple of three. -/
def rule (q k : ℕ) : BitVec 1 := BitVec.ofBool (decide (q = k) || decide (k = 0) || decide ((q + k) % 3 = 0))

/-- Whether the query at position `i` sees the key at position `j`. -/
def keep (i j : ℕ) : BitVec 1 := rule (i / 64) (j / 64)

/-- A row of scores: the scaled products of the query with the keys, the masked ones at the constant. -/
def score (q : Fin 128 → EReal) (k : Fin 4096 → Fin 128 → EReal) (M : Fin 4096 → BitVec 1) (j : Fin 4096) : EReal :=
  Scalar.select (M j) ((∑ e : Fin 128, q e * k j e) * Ideal.ofBits .f32 0x3DB504F3#32) (Ideal.ofBits .f32 0xCE6E6B28#32)

/-- The weights of a row of scores before they are normalised. -/
def weight (s : Fin 4096 → EReal) (j : Fin 4096) : EReal :=
  Ideal.exp (s j - Finset.fold max (Ideal.ofBits .f32 0xFF800000#32) s Finset.univ)

/-- One head's output at a feature: the values averaged by the normalised weights. -/
def head (q : Fin 128 → EReal) (k : Fin 4096 → Fin 128 → EReal) (v : Fin 4096 → EReal) (M : Fin 4096 → BitVec 1) : EReal :=
  ∑ j : Fin 4096, Ideal.div (weight (score q k M) j) (∑ j' : Fin 4096, weight (score q k M) j') * v j

end Cert.Value

end
-- ==== Proof.Value.Head.lean ====
/-
# One head's arithmetic, element by element

Over exact numbers: the printed arithmetic of a head, with the mask as an argument, is the softmax of the masked scaled
products of the queries and the keys, times the values, times the head's rows of the output matrix.
-/
module

public import proofs.«01_k».proof.Proof.Value.Spec
public import proofs.«01_k».proof.Proof.RunKernelIdeal.Step
public import Idealize.ShloMosaic.Lib.Pointwise

@[expose] public section

noncomputable section

namespace Cert.Value

open Cert.KernelIdeal Cert.KernelIdeal.Gen Cert.RunKernelIdeal

open Idealize.ShloMosaic

/-- The mask a chunk computes, of the block's number as a word. -/
def maskI (v383 : BitVec 32) : IVec S256x4096 1 :=
  have v424 : IVec S256x4096 32 := iota .tc S256x4096 32 [1] iota_S256x4096_d1_w32
  have v426 : IVec S256x4096 32 := k0_pay32
  have v445 : IVec S256x4096 1 := k0_pay33
  have v446 : IVec S256x4096 32 := k0_pay34
  have v447 : IVec S256x4096 32 := subi v426 v446
  have v448 : IVec S256x4096 32 := select v445 v447 v426
  let v449 : BitVec 32 := Scalar.muli v383 4#32
  have v450 : IVec S256x4096 32 := broadcast S256x4096 v449
  have v451 : IVec S256x4096 32 := addi v448 v450
  have v452 : IVec S256x4096 32 := broadcast S256x4096 64#32
  have v453 : IVec S256x4096 32 := divsi v424 v452
  have v454 : IVec S256x4096 32 := broadcast S256x4096 0#32
  have v455 : IVec S256x4096 1 := cmpi .sgt v424 v454
  have v456 : IVec S256x4096 32 := extui 32 v455 natLt_1_32
  have v457 : IVec S256x4096 32 := broadcast S256x4096 0#32
  have v458 : IVec S256x4096 1 := cmpi .slt v424 v457
  have v459 : IVec S256x4096 32 := extui 32 v458 natLt_1_32
  have v460 : IVec S256x4096 32 := subi v456 v459
  let v461 : BitVec 1 := Scalar.cmpi .sgt 64#32 0#32
  let v462 : BitVec 32 := Scalar.extui v461
  let v463 : BitVec 1 := Scalar.cmpi .slt 64#32 0#32
  let v464 : BitVec 32 := Scalar.extui v463
  let v465 : BitVec 32 := Scalar.subi v462 v464
  have v466 : IVec S256x4096 32 := broadcast S256x4096 v465
  have v467 : IVec S256x4096 1 := cmpi .ne v460 v466
  have v468 : IVec S256x4096 32 := broadcast S256x4096 64#32
  have v469 : IVec S256x4096 32 := remsi v424 v468
  have v470 : IVec S256x4096 32 := broadcast S256x4096 0#32
  have v471 : IVec S256x4096 1 := cmpi .ne v469 v470
  have v472 : IVec S256x4096 1 := andi v467 v471
  have v473 : IVec S256x4096 32 := broadcast S256x4096 1#32
  have v474 : IVec S256x4096 32 := subi v453 v473
  have v475 : IVec S256x4096 32 := select v472 v474 v453
  have v476 : IVec S256x4096 1 := cmpi .eq v451 v475
  have v477 : IVec S256x4096 32 := broadcast S256x4096 0#32
  have v478 : IVec S256x4096 1 := cmpi .eq v475 v477
  have v479 : IVec S256x4096 1 := ori v476 v478
  have v480 : IVec S256x4096 32 := addi v451 v475
  have v481 : IVec S256x4096 32 := broadcast S256x4096 3#32
  have v482 : IVec S256x4096 32 := remsi v480 v481
  have v483 : IVec S256x4096 32 := broadcast S256x4096 0#32
  have v484 : IVec S256x4096 1 := cmpi .eq v482 v483
  have v485 : IVec S256x4096 1 := ori v479 v484
  v485

/-- A head's arithmetic behind the mask. -/
def core (v485 : IVec S256x4096 1) (arg19 : FVec Ideal S256x1024 .f32) (v1022 : Vec Ideal S1x256x128 .bf16) (v1025 : Vec Ideal S1x4096x128 .bf16) (v1043 : Vec Ideal S1x4096x128 .bf16) (v1049 : Vec Ideal S128x1024 .bf16) : FVec Ideal S256x1024 .f32 :=
  have v1023 : FVec Ideal S256x128 .bf16 := shapeCast S256x128 v1022 shapeCasts_S1x256x128_S256x128
  have v1026 : FVec Ideal S4096x128 .bf16 := shapeCast S4096x128 v1025 shapeCasts_S1x4096x128_S4096x128
  have cst_809 : FVec Ideal S256x4096 .f32 := constant S256x4096 .f32 0x00000000#32
  have v1027 : FVec Ideal S256x4096 .f32 := matmul dot_S256x128_S4096x128_S256x4096_1_1_0_0_n_n none v1023 v1026 cst_809
  have cst_810 : Ideal .f32 := Scalar.ofBits .f32 0x3DB504F3#32
  have v1028 : FVec Ideal S256x4096 .f32 := broadcast S256x4096 cst_810
  have v1029 : FVec Ideal S256x4096 .f32 := mulf v1027 v1028
  have cst_811 : Ideal .f32 := Scalar.ofBits .f32 0xCE6E6B28#32
  have v1030 : FVec Ideal S256x4096 .f32 := broadcast S256x4096 cst_811
  have v1031 : FVec Ideal S256x4096 .f32 := select v485 v1029 v1030
  have v1032 : FVec Ideal S256 .f32 := multiReduction .maximumf [1] S256 v1031 0xFF800000#32 reduces_S256x4096_S256 (.inl rfl) rfl
  have v1033 : FVec Ideal S256x1 .f32 := shapeCast S256x1 v1032 shapeCasts_S256_S256x1
  have v1034 : FVec Ideal S256x4096 .f32 := broadcastTo S256x4096 v1033 broadcasts_S256x1_S256x4096
  have v1035 : FVec Ideal S256x4096 .f32 := subf v1031 v1034
  have v1036 : FVec Ideal S256x4096 .f32 := exp v1035
  have v1037 : FVec Ideal S256 .f32 := multiReduction .add [1] S256 v1036 0x00000000#32 reduces_S256x4096_S256 (.inl rfl) rfl
  have v1038 : FVec Ideal S256x1 .f32 := shapeCast S256x1 v1037 shapeCasts_S256_S256x1
  have v1039 : FVec Ideal S256x4096 .f32 := broadcastTo S256x4096 v1038 broadcasts_S256x1_S256x4096
  have v1040 : FVec Ideal S256x4096 .f32 := divf v1036 v1039
  have v1041 : FVec Ideal S256x4096 .bf16 := truncf .bf16 v1040 bitsLt_bf16_f32
  have v1044 : FVec Ideal S4096x128 .bf16 := shapeCast S4096x128 v1043 shapeCasts_S1x4096x128_S4096x128
  have cst_816 : FVec Ideal S256x128 .f32 := constant S256x128 .f32 0x00000000#32
  have v1045 : FVec Ideal S256x128 .f32 := matmul dot_S256x4096_S4096x128_S256x128_1_0_0_1_n_n none v1041 v1044 cst_816
  have v1046 : FVec Ideal S256x128 .bf16 := truncf .bf16 v1045 bitsLt_bf16_f32
  have v1050 : FVec Ideal S128x1024 .bf16 := shapeCast S128x1024 v1049 shapeCasts_S128x1024_S128x1024
  have cst_818 : FVec Ideal S256x1024 .f32 := constant S256x1024 .f32 0x00000000#32
  have v1051 : FVec Ideal S256x1024 .f32 := matmul dot_S256x128_S128x1024_S256x1024_1_0_0_1_n_n none v1046 v1050 cst_818
  have v1052 : FVec Ideal S256x1024 .f32 := addf arg19 v1051
  v1052

theorem step_core (o : BitVec 32) (acc : FVec Ideal S256x1024 .f32) (q : Vec Ideal S1x256x128 .bf16) (k v : Vec Ideal S1x4096x128 .bf16) (w : Vec Ideal S128x1024 .bf16) :
    step o acc q k v w = core (maskI o) acc q k v w := rfl

set_option maxRecDepth 16384 in
set_option maxHeartbeats 1000000 in
theorem core_apply (M : IVec S256x4096 1) (acc : FVec Ideal S256x1024 .f32) (q : Vec Ideal S1x256x128 .bf16) (k v : Vec Ideal S1x4096x128 .bf16) (w : Vec Ideal S128x1024 .bf16) (r : Fin 256) (n : Fin 1024) :
    core M acc q k v w (ix2 r n) = acc (ix2 r n) + ∑ d : Fin 128,
      head (fun e => q (ix3 0 r e)) (fun j e => k (ix3 0 j e)) (fun j => v (ix3 0 j d)) (fun j => M (ix2 r j)) * w (ix2 d n) := by
  pointwise [core]
  rfl

end Cert.Value

end
-- ==== Proof.Value.Mask.lean ====
/-
# The mask

The printed quotient of a position by the block length is the block's number, and the printed mask is the rule on the
two blocks' numbers.
-/
module

public import proofs.«01_k».proof.Proof.Value.Head

@[expose] public section

noncomputable section

namespace Cert.Value

open Cert.KernelIdeal Cert.KernelIdeal.Gen Cert.RunKernelIdeal

open Idealize.ShloMosaic

/-- The printed floor of a quotient by 64, on a kernel's word. -/
abbrev floorI (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi ArithUnit.vector x 64#32) 0#32))
    (IntOp.subi (IntOp.divsi ArithUnit.vector x 64#32) 1#32)
    (IntOp.divsi ArithUnit.vector x 64#32)

set_option maxRecDepth 16384 in
/-- It is the quotient of the position. -/
theorem floorI_eq : ∀ n : Fin 4096, floorI (BitVec.ofNat 32 n.val) = BitVec.ofNat 32 (n.val / 64) := by decide +kernel

/-- The printed rule, on the words of the two blocks' numbers. -/
abbrev ruleI (a k : BitVec 32) : BitVec 1 :=
  IntOp.ori (IntOp.ori (IntOp.cmpi .eq a k) (IntOp.cmpi .eq k 0#32))
    (IntOp.cmpi .eq (IntOp.remsi ArithUnit.vector (IntOp.addi a k) 3#32) 0#32)

set_option maxRecDepth 16384 in
theorem ruleI_eq : ∀ (b : Fin 4) (q : Fin 4) (k : Fin 64),
    ruleI (IntOp.addi (BitVec.ofNat 32 q.val) (Scalar.muli (BitVec.ofNat 32 b.val) 4#32)) (BitVec.ofNat 32 k.val) = rule (4 * b.val + q.val) k.val := by
  decide +kernel

set_option maxRecDepth 16384 in
/-- The mask of block `b` at row `r` of the block and key `j`. -/
theorem maskI_apply (b : Fin 4) (r : Fin 256) (j : Fin 4096) :
    maskI (BitVec.ofNat 32 b.val) (ix2 r j) = keep (256 * b.val + r.val) j.val := by
  have h : maskI (BitVec.ofNat 32 b.val) (ix2 r j)
      = ruleI (IntOp.addi (floorI (BitVec.ofNat 32 r.val)) (Scalar.muli (BitVec.ofNat 32 b.val) 4#32)) (floorI (BitVec.ofNat 32 j.val)) := by
    pointwise [maskI, k0_pay32, k0_pay33, k0_pay34]
  rw [h, floorI_eq ⟨r.val, by omega⟩, floorI_eq j, ruleI_eq b ⟨r.val / 64, by omega⟩ ⟨j.val / 64, by omega⟩, keep,
    show (256 * b.val + r.val) / 64 = 4 * b.val + r.val / 64 by omega]

end Cert.Value

end
-- ==== Proof.Value.Chunk.lean ====
/-
# One chunk's result, element by element

Over exact numbers a chunk's stored result is the sum over the device's eight heads and their features of the head's
output times the output matrix; its queries, keys, values and rows of the output matrix are read out of the arguments.
-/
module

public import proofs.«01_k».proof.Proof.Value.Mask
public import proofs.«01_k».proof.Proof.RunKernelIdeal.Body

@[expose] public section

noncomputable section

namespace Cert.Value

open Cert.KernelIdeal Cert.KernelIdeal.Gen Cert.RunKernelIdeal

open Idealize.ShloMosaic

/-- Column `128 h + e` of a device's columns. -/
abbrev col (h : Fin 8) (e : Fin 128) : Fin 1024 := ⟨128 * h.val + e.val, by omega⟩

/-- The head's number `8 c + h` among all. -/
abbrev hd (c : Dev nD) (h : Fin 8) : Fin 32 := ⟨8 * c.val + h.val, by have := h.isLt; have : c.val < 4 := c.isLt; omega⟩

set_option maxRecDepth 16384 in
/-- The queries of a head. -/
theorem qsl_apply (x : Vec Ideal S1x256x1024 .bf16) (wq : Vec Ideal S1024x1024 .bf16) (h : Fin 8) (r : Fin 256) (e : Fin 128) :
    qsl x wq h (ix3 0 r e) = ∑ t : Fin 1024, x (ix3 0 r t) * wq (ix2 t (col h e)) := by
  fin_cases h
  · pointwise [qsl, k0_pay22, k0_pay23]
    exact Finset.sum_congr rfl fun t _ => congrArg (fun k => x (ix3 0 r t) * wq (ix2 t k)) (Fin.ext (by simp))
  · pointwise [qsl, k0_pay22, k0_pay24]
    exact Finset.sum_congr rfl fun t _ => congrArg (fun k => x (ix3 0 r t) * wq (ix2 t k)) (Fin.ext (by simp))
  · pointwise [qsl, k0_pay22, k0_pay25]
    exact Finset.sum_congr rfl fun t _ => congrArg (fun k => x (ix3 0 r t) * wq (ix2 t k)) (Fin.ext (by simp))
  · pointwise [qsl, k0_pay22, k0_pay26]
    exact Finset.sum_congr rfl fun t _ => congrArg (fun k => x (ix3 0 r t) * wq (ix2 t k)) (Fin.ext (by simp))
  · pointwise [qsl, k0_pay22, k0_pay27, k0_pay28]
    exact Finset.sum_congr rfl fun t _ => congrArg (fun k => x (ix3 0 r t) * wq (ix2 t k)) (Fin.ext (by simp))
  · pointwise [qsl, k0_pay22, k0_pay29]
    exact Finset.sum_congr rfl fun t _ => congrArg (fun k => x (ix3 0 r t) * wq (ix2 t k)) (Fin.ext (by simp))
  · pointwise [qsl, k0_pay22, k0_pay30]
    exact Finset.sum_congr rfl fun t _ => congrArg (fun k => x (ix3 0 r t) * wq (ix2 t k)) (Fin.ext (by simp))
  · pointwise [qsl, k0_pay22, k0_pay31]
    exact Finset.sum_congr rfl fun t _ => congrArg (fun k => x (ix3 0 r t) * wq (ix2 t k)) (Fin.ext (by simp))

/-- A head's rows of the output matrix. -/
theorem wrows_apply (wo : Vec Ideal S1024x1024 .bf16) (h : Fin 8) (d : Fin 128) (n : Fin 1024) :
    wrows wo h (ix2 d n) = wo (ix2 (col h d) n) := by
  refine congrArg wo (funext fun a => ?_)
  match a with
  | 0 => exact Fin.ext (by show 128 * h.val + 1 * d.val = _; rw [one_mul]; rfl)
  | 1 => exact Fin.ext (by show 0 + 1 * n.val = _; rw [one_mul, zero_add]; rfl)

/-- The place a copied element of head `8 c + h` is read from. -/
theorem place_apply (c : Dev nD) (h : Fin 8) (j : Fin 4096) (e : Fin 128) :
    (Rect.unit (s := S1x4096x32x128) (k0_off3 c (BitVec.ofNat 32 h.val)) S1x4096x1x128.size (k0_off3_inb c h)).idx (ix4 0 j 0 e) = ix4 0 j (hd c h) e := by
  funext a
  refine Fin.ext ?_
  have hk := congrFun (k0_off3_eq c h)
  match a with
  | 0 => exact (show k0_off3 c (BitVec.ofNat 32 h.val) 0 + 1 * 0 = 0 by rw [hk 0]; rfl)
  | 1 => exact (show k0_off3 c (BitVec.ofNat 32 h.val) 1 + 1 * j.val = j.val by rw [hk 1]; show 0 + 1 * j.val = j.val; omega)
  | 2 => exact (show k0_off3 c (BitVec.ofNat 32 h.val) 2 + 1 * 0 = 8 * c.val + h.val by rw [hk 2]; rfl)
  | 3 => exact (show k0_off3 c (BitVec.ofNat 32 h.val) 3 + 1 * e.val = e.val by rw [hk 3]; show 0 + 1 * e.val = e.val; omega)

theorem casts_window : S1x4096x1x128.ShapeCasts S4096x128 := by decide

set_option maxRecDepth 16384 in
/-- The keys of a head. -/
theorem keys_apply (c : Dev nD) (kc : main_arg2.ty.Contents (Elt Ideal)) (h : Fin 8) (j : Fin 4096) (e : Fin 128) :
    (k0_pay3 (kcv c kc h) : FVec Ideal S1x4096x128 .bf16) (ix3 0 j e) = kc (ix4 0 j (hd c h) e) := by
  have h1 : (k0_pay3 (kcv c kc h) : FVec Ideal S1x4096x128 .bf16) (ix3 0 j e) = kcv c kc h (ix3 0 j e) := by pointwise [k0_pay3]
  rw [h1, kcv, Memref.read_squeeze_slice _ _ _ _ casts_window, Shape.reshapeEquiv_symm]
  have h2 : ∀ g : Vec Ideal S1x4096x1x128 .f32, shapeCast S4096x128 g casts_window
      (Shape.reshapeEquiv squeezes_S1x4096x128_S4096x128.numel_eq.symm (ix3 0 j e)) = g (ix4 0 j 0 e) := fun g => by pointwise
  refine (h2 _).trans ?_
  exact congrArg kc (place_apply c h j e)

set_option maxRecDepth 16384 in
/-- The values of a head. -/
theorem vals_apply (c : Dev nD) (kc : main_arg3.ty.Contents (Elt Ideal)) (h : Fin 8) (j : Fin 4096) (e : Fin 128) :
    (k0_pay3 (vcv c kc h) : FVec Ideal S1x4096x128 .bf16) (ix3 0 j e) = kc (ix4 0 j (hd c h) e) := by
  have h1 : (k0_pay3 (vcv c kc h) : FVec Ideal S1x4096x128 .bf16) (ix3 0 j e) = vcv c kc h (ix3 0 j e) := by pointwise [k0_pay3]
  rw [h1, vcv, Memref.read_squeeze_slice _ _ _ _ casts_window, Shape.reshapeEquiv_symm]
  have h2 : ∀ g : Vec Ideal S1x4096x1x128 .f32, shapeCast S4096x128 g casts_window
      (Shape.reshapeEquiv squeezes_S1x4096x128_S4096x128.numel_eq.symm (ix3 0 j e)) = g (ix4 0 j 0 e) := fun g => by pointwise
  refine (h2 _).trans ?_
  exact congrArg kc (place_apply c h j e)

set_option maxRecDepth 16384 in
/-- What a chunk stores. -/
theorem prodO_apply (o : BitVec 32) (x : Vec Ideal S1x256x1024 .bf16) (wq wo : Vec Ideal S1024x1024 .bf16) (ks vs : Fin 8 → Vec Ideal S1x4096x128 .bf16)
    (r : Fin 256) (n : Fin 1024) :
    prodO o x wq wo ks vs (ix3 0 r n) = ∑ h : Fin 8, ∑ d : Fin 128,
      head (fun e => ∑ t : Fin 1024, x (ix3 0 r t) * wq (ix2 t (col h e))) (fun j e => ks h (ix3 0 j e)) (fun j => vs h (ix3 0 j d)) (fun j => maskI o (ix2 r j))
        * wo (ix2 (col h d) n) := by
  have hs : ∀ (a : FVec Ideal S256x1024 .f32) (h : Fin 8), step o a (qsl x wq h) (ks h) (vs h) (wrows wo h) (ix2 r n)
      = a (ix2 r n) + ∑ d : Fin 128,
        head (fun e => ∑ t : Fin 1024, x (ix3 0 r t) * wq (ix2 t (col h e))) (fun j e => ks h (ix3 0 j e)) (fun j => vs h (ix3 0 j d)) (fun j => maskI o (ix2 r j))
          * wo (ix2 (col h d) n) := fun a h => by
    rw [step_core, core_apply]
    simp only [qsl_apply, wrows_apply]
  have h0 : (k0_pay35 : FVec Ideal S256x1024 .f32) (ix2 r n) = 0 := by pointwise [k0_pay35]
  have h1 : prodO o x wq wo ks vs (ix3 0 r n) = accO o (qsl x wq) ks vs wo 8 (ix2 r n) := by
    pointwise [prodO, k0_pay38, k0_pay37]
  rw [h1, accO_succ _ _ _ _ _ 7 (by decide), hs, accO_succ _ _ _ _ _ 6 (by decide), hs, accO_succ _ _ _ _ _ 5 (by decide), hs,
    accO_succ _ _ _ _ _ 4 (by decide), hs, accO_succ _ _ _ _ _ 3 (by decide), hs, accO_succ _ _ _ _ _ 2 (by decide), hs,
    accO_succ _ _ _ _ _ 1 (by decide), hs, accO_succ _ _ _ _ _ 0 (by decide), hs, accO, h0, zero_add, Fin.sum_univ_eight]
  rfl

end Cert.Value

end
-- ==== Proof.Value.Device.lean ====
/-
# A device's result, element by element

The ring sum gives device `c` the sum over the four devices of each one's contribution to `c`'s rows.
-/
module

public import proofs.«01_k».proof.Proof.Value.Chunk

@[expose] public section

noncomputable section

namespace Cert.Value

open Cert.KernelIdeal Cert.KernelIdeal.Gen Cert.RunKernelIdeal

open Idealize.ShloMosaic

section Out
variable (xg : Dev nD → Vec Ideal S1x256x1024 .bf16) (wq wo : Dev nD → Vec Ideal S1024x1024 .bf16)
  (kc : Dev nD → main_arg2.ty.Contents (Elt Ideal)) (vc : Dev nD → main_arg3.ty.Contents (Elt Ideal))

/-- Device `d`'s contribution to row `r` of the rows of device `o`, at feature `n`: its eight heads. -/
def contrib (d o : Dev nD) (r : Fin 256) (n : Fin 1024) : EReal :=
  ∑ h : Fin 8, ∑ f : Fin 128,
    head (fun e => ∑ t : Fin 1024, xg o (ix3 0 r t) * wq d (ix2 t (col h e))) (fun j e => kc d (ix4 0 j (hd d h) e)) (fun j => vc d (ix4 0 j (hd d h) f))
      (fun j => keep (256 * o.val + r.val) j.val) * wo d (ix2 (col h f) n)

theorem word_bk : ∀ (c : Dev nD) (i : Fin 4), wordB (v2w c) (BitVec.ofNat 32 i.val) = BitVec.ofNat 32 (bk i.val c).val := by decide +kernel

set_option maxRecDepth 16384 in
theorem prodI_apply (i : Fin 4) (c : Dev nD) (r : Fin 256) (n : Fin 1024) :
    (prodI xg wq wo kc vc (BitVec.ofNat 32 i.val) i.val c : FVec Ideal S1x256x1024 .bf16) (ix3 0 r n) = contrib xg wq wo kc vc c (bk i.val c) r n := by
  rw [prodI, prodO_apply, word_bk]
  have hx : ∀ t : Fin 1024, (Xv xg (bk i.val c) : FVec Ideal S1x256x1024 .bf16) (ix3 0 r t) = xg (bk i.val c) (ix3 0 r t) := fun t => by pointwise [Xv, k0_pay2]
  have hm : ∀ j : Fin 4096, maskI (BitVec.ofNat 32 (bk i.val c).val) (ix2 r j) = keep (256 * (bk i.val c).val + r.val) j.val := fun j => maskI_apply (bk i.val c) r j
  unfold contrib
  simp only [keys_apply, vals_apply, hx, hm]

theorem ring_cases : ∀ c : Dev nD, (c = 0 ∧ prv c = 3 ∧ prv (prv c) = 2 ∧ prv (prv (prv c)) = 1) ∨ (c = 1 ∧ prv c = 0 ∧ prv (prv c) = 3 ∧ prv (prv (prv c)) = 2)
    ∨ (c = 2 ∧ prv c = 1 ∧ prv (prv c) = 0 ∧ prv (prv (prv c)) = 3) ∨ (c = 3 ∧ prv c = 2 ∧ prv (prv c) = 1 ∧ prv (prv (prv c)) = 0) := by decide

/-- A sum round the ring is the sum over the devices. -/
theorem ring_sum (f : Dev nD → EReal) (c : Dev nD) : f c + (f (prv c) + (f (prv (prv c)) + f (prv (prv (prv c))))) = ∑ d : Dev nD, f d := by
  have e : ∑ d : Dev nD, f d = f 0 + f 1 + f 2 + f 3 := Fin.sum_univ_four f
  rw [e]
  rcases ring_cases c with ⟨h0, h1, h2, h3⟩ | ⟨h0, h1, h2, h3⟩ | ⟨h0, h1, h2, h3⟩ | ⟨h0, h1, h2, h3⟩ <;> rw [h3, h2, h1, h0] <;> ac_rfl

theorem back1 (c : Dev nD) : bk 1 (prv (prv (prv c))) = c := by revert c; decide
theorem back2 (c : Dev nD) : bk 2 (prv (prv c)) = c := by revert c; decide
theorem back3 (c : Dev nD) : bk 3 (prv c) = c := by revert c; decide

set_option maxRecDepth 16384 in
/-- The result. -/
theorem outv_apply (c : Dev nD) (r : Fin 256) (n : Fin 1024) :
    (outv xg wq wo kc vc c : FVec Ideal S1x256x1024 .f32) (ix3 0 r n) = ∑ d : Dev nD, contrib xg wq wo kc vc d c r n := by
  rw [← ring_sum _ c]
  have h0 := prodI_apply xg wq wo kc vc 0 c r n
  have h3 := prodI_apply xg wq wo kc vc 3 (prv c) r n
  have h2 := prodI_apply xg wq wo kc vc 2 (prv (prv c)) r n
  have h1 := prodI_apply xg wq wo kc vc 1 (prv (prv (prv c))) r n
  have e : (outv xg wq wo kc vc c : FVec Ideal S1x256x1024 .f32) (ix3 0 r n)
      = (prodI xg wq wo kc vc 0#32 0 c : FVec Ideal S1x256x1024 .bf16) (ix3 0 r n)
        + ((prodI xg wq wo kc vc 3#32 3 (prv c) : FVec Ideal S1x256x1024 .bf16) (ix3 0 r n)
          + ((prodI xg wq wo kc vc 2#32 2 (prv (prv c)) : FVec Ideal S1x256x1024 .bf16) (ix3 0 r n)
            + (prodI xg wq wo kc vc 1#32 1 (prv (prv (prv c))) : FVec Ideal S1x256x1024 .bf16) (ix3 0 r n))) := by
    unfold outv rs2 rs1 rs0
    generalize prodI xg wq wo kc vc 0#32 0 c = a
    generalize prodI xg wq wo kc vc 1#32 1 _ = b
    generalize prodI xg wq wo kc vc 2#32 2 _ = d
    generalize prodI xg wq wo kc vc 3#32 3 _ = g
    pointwise [k0_pay1, k0_pay93, k0_pay92, k0_pay72]
  rw [e]
  refine congrArg₂ (· + ·) (h0.trans ?_) (congrArg₂ (· + ·) (h3.trans ?_) (congrArg₂ (· + ·) (h2.trans ?_) (h1.trans ?_)))
  · exact congrArg (fun o => contrib xg wq wo kc vc c o r n) (bk_zero c)
  · exact congrArg (fun o => contrib xg wq wo kc vc _ o r n) (back3 c)
  · exact congrArg (fun o => contrib xg wq wo kc vc _ o r n) (back2 c)
  · exact congrArg (fun o => contrib xg wq wo kc vc _ o r n) (back1 c)

end Out

end Cert.Value

end
-- ==== Proof.Value.Reference.lean ====
/-
# The reference's result, element by element

Over exact numbers the reference's element at row `i` and feature `n` is the sum over the heads and their features of the
head's output times the output matrix. Every row sees the first block of keys, so the reference's guard on rows that see
none never acts.
-/
module

public import proofs.«01_k».proof.Proof.Value.Spec
public import proofs.«01_k».proof.Proof.Gen.ReferenceIdeal.Run
public import Idealize.ShloMosaic.Lib.Pointwise
public import Idealize.ShloMosaic.Lib.Tactic.CleanTypes
public import Idealize.ShloMosaic.Lib.Routing.OpsOrder

@[expose] public section

noncomputable section

namespace Cert.Value.Ref

open Cert.ReferenceIdeal Cert.ReferenceIdeal.Gen Cert.ReferenceIdeal.Value

open Idealize.ShloMosaic
open Idealize.ShloMosaic.TcCoe

/-- The host's floor of a quotient by 64, on a word. -/
abbrev floorH (x : BitVec 32) : BitVec 32 :=
  Scalar.select
    (IntOp.andi
      (IntOp.cmpi .ne (if x = 0 then 0 else if x.msb = true then -1 else 1 : BitVec 32) (if (64#32 : BitVec 32) = 0 then 0 else if (64#32 : BitVec 32).msb = true then -1 else 1 : BitVec 32))
      (IntOp.cmpi .ne (IntOp.remsi ArithUnit.host x 64#32) 0#32))
    (IntOp.subi (IntOp.divsi ArithUnit.host x 64#32) 1#32)
    (IntOp.divsi ArithUnit.host x 64#32)

set_option maxRecDepth 16384 in
/-- It is the quotient of the position. -/
theorem floorH_eq : ∀ n : Fin 4096, floorH (BitVec.ofNat 32 n.val) = BitVec.ofNat 32 (n.val / 64) := by decide +kernel

/-- The host's divisor of the remainder, guarded against zero. -/
abbrev three : BitVec 32 := Scalar.select (IntOp.cmpi .eq 3#32 0#32) 1#32 3#32

/-- The host's rule, on the words of the two blocks' numbers. -/
abbrev ruleH (a k : BitVec 32) : BitVec 1 :=
  IntOp.ori (IntOp.ori (IntOp.cmpi .eq a k) (IntOp.cmpi .eq k 0#32))
    (IntOp.cmpi .eq
      (Scalar.select
        (IntOp.andi
          (IntOp.cmpi .ne (IntOp.cmpi .slt (IntOp.remsi ArithUnit.host (IntOp.addi a k) three) 0#32) (IntOp.cmpi .slt three 0#32))
          (IntOp.cmpi .ne (IntOp.remsi ArithUnit.host (IntOp.addi a k) three) 0#32))
        (IntOp.addi (IntOp.remsi ArithUnit.host (IntOp.addi a k) three) three)
        (IntOp.remsi ArithUnit.host (IntOp.addi a k) three))
      0#32)

set_option maxRecDepth 16384 in
theorem ruleH_eq : ∀ (q : Fin 16) (k : Fin 64), ruleH (BitVec.ofNat 32 q.val) (BitVec.ofNat 32 k.val) = rule q.val k.val := by
  decide +kernel

/-- The block of each query row, as the host computes it. -/
def blkQ : IVec S1024 32 :=
  have c64 : IVec S_ 32 := id (constantI S_ 32 64#32)
  have q : IVec S1024 32 := Host.divsi (iotaInDim S1024 32 0) (broadcastInDim S1024 ![] bcast_S_S1024 c64)
  select
    (andi
      (cmpi .ne (signi (iotaInDim S1024 32 0)) (broadcastInDim S1024 ![] bcast_S_S1024 (signi c64)))
      (cmpi .ne (Host.remsi (iotaInDim S1024 32 0) (broadcastInDim S1024 ![] bcast_S_S1024 c64))
        (broadcastInDim S1024 ![] bcast_S_S1024 (constantI S_ 32 0#32))))
    (subi q (broadcastInDim S1024 ![] bcast_S_S1024 (constantI S_ 32 1#32))) q

/-- The block of each key, as the host computes it. -/
def blkK : IVec S4096 32 :=
  have c64 : IVec S_ 32 := id (constantI S_ 32 64#32)
  have q : IVec S4096 32 := Host.divsi (iotaInDim S4096 32 0) (broadcastInDim S4096 ![] bcast_S_S4096 c64)
  select
    (andi
      (cmpi .ne (signi (iotaInDim S4096 32 0)) (broadcastInDim S4096 ![] bcast_S_S4096 (signi c64)))
      (cmpi .ne (Host.remsi (iotaInDim S4096 32 0) (broadcastInDim S4096 ![] bcast_S_S4096 c64))
        (broadcastInDim S4096 ![] bcast_S_S4096 (constantI S_ 32 0#32))))
    (subi q (broadcastInDim S4096 ![] bcast_S_S4096 (constantI S_ 32 1#32))) q

theorem blkQ_apply (i : Fin 1024) : blkQ (ix1 i) = BitVec.ofNat 32 (i.val / 64) := by
  rw [← floorH_eq ⟨i.val, by omega⟩]
  pointwise [blkQ]
  rfl

theorem blkK_apply (j : Fin 4096) : blkK (ix1 j) = BitVec.ofNat 32 (j.val / 64) := by
  rw [← floorH_eq j]
  pointwise [blkK]
  rfl

/-- The host's remainder by three of every entry. -/
def modV (x : IVec S1024x4096 32) : IVec S1024x4096 32 :=
  have c3 : IVec S_ 32 := id (constantI S_ 32 3#32)
  have d : IVec S_ 32 := select (cmpi .eq c3 (constantI S_ 32 0#32)) (constantI S_ 32 1#32) c3
  have r : IVec S1024x4096 32 := Host.remsi x (broadcastInDim S1024x4096 ![] bcast_S_S1024x4096 d)
  select
    (andi
      (cmpi .ne (cmpi .slt r (broadcastInDim S1024x4096 ![] bcast_S_S1024x4096 (constantI S_ 32 0#32)))
        (broadcastInDim S1024x4096 ![] bcast_S_S1024x4096 (cmpi .slt d (constantI S_ 32 0#32))))
      (cmpi .ne r (broadcastInDim S1024x4096 ![] bcast_S_S1024x4096 (constantI S_ 32 0#32))))
    (addi r (broadcastInDim S1024x4096 ![] bcast_S_S1024x4096 d)) r

/-- The host's rule on the two arrays of block numbers. -/
def maskOf (q : IVec S1024 32) (k : IVec S4096 32) : IVec S1024x4096 1 :=
  have v5 : IVec S1024x1 32 := broadcastInDim S1024x1 ![0] bcast_S1024_S1024x1_0 q
  have v8 : IVec S1x4096 32 := broadcastInDim S1x4096 ![1] bcast_S4096_S1x4096_1 k
  ori
    (ori
      (cmpi .eq (broadcastInDim S1024x4096 ![0, 1] bcast_S1024x1_S1024x4096_0_1 v5)
        (broadcastInDim S1024x4096 ![0, 1] bcast_S1x4096_S1024x4096_0_1 v8))
      (broadcastInDim S1024x4096 ![0, 1] bcast_S1x4096_S1024x4096_0_1
        (cmpi .eq v8 (broadcastInDim S1x4096 ![] bcast_S_S1x4096 (constantI S_ 32 0#32)))))
    (cmpi .eq
      (modV (addi (broadcastInDim S1024x4096 ![0, 1] bcast_S1024x1_S1024x4096_0_1 v5)
        (broadcastInDim S1024x4096 ![0, 1] bcast_S1x4096_S1024x4096_0_1 v8)))
      (broadcastInDim S1024x4096 ![] bcast_S_S1024x4096 (constantI S_ 32 0#32)))

theorem maskOf_apply (q : IVec S1024 32) (k : IVec S4096 32) (i : Fin 1024) (j : Fin 4096) :
    maskOf q k (ix2 i j) = ruleH (q (ix1 i)) (k (ix1 j)) := by
  pointwise [maskOf, modV]
  rfl

/-- The reference's mask at two positions. -/
theorem mask_apply (i : Fin 1024) (j : Fin 4096) : maskOf blkQ blkK (ix2 i j) = keep i.val j.val := by
  rw [maskOf_apply, blkQ_apply, blkK_apply, ruleH_eq ⟨i.val / 64, by omega⟩ ⟨j.val / 64, by omega⟩, keep]

/-- Some key is seen by every row. -/
theorem any_eq (i : Fin 1024) : Finset.fold IntOp.ori (0#1) (fun j : Fin 4096 => keep i.val j.val) Finset.univ = 1#1 := by
  rw [Routing.fold_ori]
  refine ⟨0, Finset.mem_univ _, ?_⟩
  simp [keep, rule]

/-- A head's number and a feature's, of a column. -/
abbrev hof (x : Fin 4096) : Fin 32 := ⟨x.val / 128, by omega⟩
abbrev fof (x : Fin 4096) : Fin 128 := ⟨x.val % 128, by omega⟩
/-- The column of a head's feature. -/
abbrev cof (h : Fin 32) (e : Fin 128) : Fin 4096 := ⟨h.val * 128 + e.val, by omega⟩

/-- The arguments and the result as arrays of numbers. -/
abbrev arg0 (m : (ℓ : Loc nD τ sig) → Buf (Elt Ideal) ℓ) (c : Dev nD) : FVec Ideal S1x1024x1024 .bf16 := m (c.tc.loc main_arg0)
abbrev arg1 (m : (ℓ : Loc nD τ sig) → Buf (Elt Ideal) ℓ) (c : Dev nD) : FVec Ideal S1024x4096 .bf16 := m (c.tc.loc main_arg1)
abbrev arg2 (m : (ℓ : Loc nD τ sig) → Buf (Elt Ideal) ℓ) (c : Dev nD) : FVec Ideal S1x4096x32x128 .f32 := m (c.tc.loc main_arg2)
abbrev arg3 (m : (ℓ : Loc nD τ sig) → Buf (Elt Ideal) ℓ) (c : Dev nD) : FVec Ideal S1x4096x32x128 .f32 := m (c.tc.loc main_arg3)
abbrev arg4 (m : (ℓ : Loc nD τ sig) → Buf (Elt Ideal) ℓ) (c : Dev nD) : FVec Ideal S4096x1024 .bf16 := m (c.tc.loc main_arg4)
def result (m : (ℓ : Loc nD τ sig) → Buf (Elt Ideal) ℓ) (c : Dev nD) : FVec Ideal S1x1024x1024 .f32 := res_main_v45 m c

/-- The reference's scores, masked. -/
def scores (M : IVec S1024x4096 1) (a0 : FVec Ideal S1x1024x1024 .bf16) (a1 : FVec Ideal S1024x4096 .bf16)
    (a2 : FVec Ideal S1x4096x32x128 .f32) : FVec Ideal S1x32x1024x4096 .f32 :=
  select
    (broadcastInDim S1x32x1024x4096 ![0, 1, 2, 3] bcast_S1x1x1024x4096_S1x32x1024x4096_0_1_2_3
      (broadcastInDim S1x1x1024x4096 ![2, 3] bcast_S1024x4096_S1x1x1024x4096_2_3 M))
    (mulf
      (Host.dotGeneral (F := Ideal) dot_S1x1024x32x128_S1x4096x32x128_S1x32x1024x4096_3_3_1_1_02_02 none
        (shapeCast S1x1024x32x128
          (truncf .bf16 (Host.dotGeneral (F := Ideal) dot_S1x1024x1024_S1024x4096_S1x1024x4096_2_0_01_1_n_n none a0 a1 :
            FVec Ideal S1x1024x4096 .f32) bitsLt_bf16_f32)
          shapeCasts_S1x1024x4096_S1x1024x32x128) a2)
      (broadcastInDim S1x32x1024x4096 ![] bcast_S_S1x32x1024x4096 (constant (F := Ideal) S_ .f32 0x3DB504F3#32)))
    (broadcastInDim S1x32x1024x4096 ![] bcast_S_S1x32x1024x4096 (id (constant (F := Ideal) S_ .f32 0xCE6E6B28#32)))

/-- Each row's largest score. -/
def rowMax (s : FVec Ideal S1x32x1024x4096 .f32) : FVec Ideal S1x32x1024 .f32 :=
  Host.reduce FloatOps.maximumf s (constant (F := Ideal) S_ .f32 0xFF800000#32) reducesTo_S1x32x1024x4096_S1x32x1024_d3 h_S_

/-- The reference's weights before the division, of the scores and each row's largest. -/
def weights (s : FVec Ideal S1x32x1024x4096 .f32) (mx : FVec Ideal S1x32x1024 .f32) : FVec Ideal S1x32x1024x4096 .f32 :=
  Host.exp (subf s (broadcastInDim S1x32x1024x4096 ![0, 1, 2, 3] bcast_S1x32x1024x1_S1x32x1024x4096_0_1_2_3
    (broadcastInDim S1x32x1024x1 ![0, 1, 2] bcast_S1x32x1024_S1x32x1024x1_0_1_2 mx)))

/-- Each row's sum of weights. -/
def rowSum (p : FVec Ideal S1x32x1024x4096 .f32) : FVec Ideal S1x32x1024 .f32 :=
  Host.reduceAdd p (constant (F := Ideal) S_ .f32 0x00000000#32) reducesTo_S1x32x1024x4096_S1x32x1024_d3 h_S_

/-- Whether a row sees some key. -/
def anyRow (M : IVec S1024x4096 1) : IVec S1024 1 :=
  Host.reduce IntOp.ori M (constantI S_ 1 0#1) reducesTo_S1024x4096_S1024_d1 h_S_

/-- The reference's probabilities, with its guards on rows that see no key. -/
def probs (any : IVec S1024 1) (p : FVec Ideal S1x32x1024x4096 .f32) (sm : FVec Ideal S1x32x1024 .f32) : FVec Ideal S1x32x1024x4096 .f32 :=
  have any4 : IVec S1x1x1024x1 1 := broadcastInDim S1x1x1024x1 ![2] bcast_S1024_S1x1x1024x1_2 any
  select (broadcastInDim S1x32x1024x4096 ![0, 1, 2, 3] bcast_S1x1x1024x1_S1x32x1024x4096_0_1_2_3 any4)
    (Host.divf p (broadcastInDim S1x32x1024x4096 ![0, 1, 2, 3] bcast_S1x32x1024x1_S1x32x1024x4096_0_1_2_3
      (select (broadcastInDim S1x32x1024x1 ![0, 1, 2, 3] bcast_S1x1x1024x1_S1x32x1024x1_0_1_2_3 any4)
        (broadcastInDim S1x32x1024x1 ![0, 1, 2] bcast_S1x32x1024_S1x32x1024x1_0_1_2 sm)
        (broadcastInDim S1x32x1024x1 ![] bcast_S_S1x32x1024x1 (id (constant (F := Ideal) S_ .f32 0x3F800000#32))))))
    (broadcastInDim S1x32x1024x4096 ![] bcast_S_S1x32x1024x4096 (id (constant (F := Ideal) S_ .f32 0x00000000#32)))

/-- The reference's result of its probabilities. -/
def outOf (p : FVec Ideal S1x32x1024x4096 .f32) (a3 : FVec Ideal S1x4096x32x128 .f32) (a4 : FVec Ideal S4096x1024 .bf16) :
    FVec Ideal S1x1024x1024 .f32 :=
  Host.dotGeneral (F := Ideal) dot_S1x1024x4096_S4096x1024_S1x1024x1024_2_0_01_1_n_n none
    (shapeCast S1x1024x4096
      (transpose S1x1024x32x128 [0, 3, 1, 2]
        (Host.dotGeneral (F := Ideal) dot_S1x4096x32x128_S1x32x1024x4096_S1x32x128x1024_1_3_3_2_02_01 none a3 p :
          FVec Ideal S1x32x128x1024 .f32)
        transposes_S1x32x128x1024_S1x1024x32x128_0_3_1_2)
      shapeCasts_S1x1024x32x128_S1x1024x4096) a4

theorem rowMax_apply (s : FVec Ideal S1x32x1024x4096 .f32) (h : Fin 32) (i : Fin 1024) :
    rowMax s (ix3 0 h i) = Finset.univ.fold max (Ideal.ofBits .f32 0xFF800000#32) (fun j : Fin 4096 => s (ix4 0 h i j)) := by
  pointwise [rowMax]

theorem rowSum_apply (p : FVec Ideal S1x32x1024x4096 .f32) (h : Fin 32) (i : Fin 1024) :
    rowSum p (ix3 0 h i) = ∑ j : Fin 4096, p (ix4 0 h i j) := by
  pointwise [rowSum]

theorem anyRow_apply (M : IVec S1024x4096 1) (i : Fin 1024) :
    anyRow M (ix1 i) = Finset.univ.fold IntOp.ori (0#1) (fun j : Fin 4096 => M (ix2 i j)) := by
  pointwise [anyRow]

theorem scores_apply (M : IVec S1024x4096 1) (a0 : FVec Ideal S1x1024x1024 .bf16) (a1 : FVec Ideal S1024x4096 .bf16)
    (a2 : FVec Ideal S1x4096x32x128 .f32) (h : Fin 32) (i : Fin 1024) (j : Fin 4096) :
    scores M a0 a1 a2 (ix4 0 h i j) = score (fun e => ∑ t : Fin 1024, a0 (ix3 0 i t) * a1 (ix2 t (cof h e)))
      (fun j e => a2 (ix4 0 j h e)) (fun j => M (ix2 i j)) j := by
  pointwise [scores]
  simp only [score]
  rfl

theorem weights_apply (s : FVec Ideal S1x32x1024x4096 .f32) (mx : FVec Ideal S1x32x1024 .f32) (h : Fin 32) (i : Fin 1024) (j : Fin 4096) :
    weights s mx (ix4 0 h i j) = Ideal.exp (s (ix4 0 h i j) - mx (ix3 0 h i)) := by
  pointwise [weights]

theorem weights_eq (s : FVec Ideal S1x32x1024x4096 .f32) (h : Fin 32) (i : Fin 1024) (j : Fin 4096) :
    weights s (rowMax s) (ix4 0 h i j) = weight (fun j => s (ix4 0 h i j)) j := by
  rw [weights_apply, rowMax_apply, weight]

theorem probs_apply (any : IVec S1024 1) (p : FVec Ideal S1x32x1024x4096 .f32) (sm : FVec Ideal S1x32x1024 .f32)
    (h : Fin 32) (i : Fin 1024) (j : Fin 4096) (hM : any (ix1 i) = 1#1) :
    probs any p sm (ix4 0 h i j) = Ideal.div (p (ix4 0 h i j)) (sm (ix3 0 h i)) := by
  pointwise [probs]
  rw [hM]
  rfl

theorem outOf_apply (p : FVec Ideal S1x32x1024x4096 .f32) (a3 : FVec Ideal S1x4096x32x128 .f32) (a4 : FVec Ideal S4096x1024 .bf16)
    (i n : Fin 1024) :
    outOf p a3 a4 (ix3 0 i n) = ∑ x : Fin 4096,
      (∑ j : Fin 4096, a3 (ix4 0 j (hof x) (fof x)) * p (ix4 0 (hof x) i j)) * a4 (ix2 x n) := by
  pointwise [outOf]

/-- The mask and the weights of the arguments. -/
abbrev maskR : IVec S1024x4096 1 := maskOf blkQ blkK
abbrev scoresR (m : (ℓ : Loc nD τ sig) → Buf (Elt Ideal) ℓ) (c : Dev nD) : FVec Ideal S1x32x1024x4096 .f32 :=
  scores maskR (arg0 m c) (arg1 m c) (arg2 m c)
abbrev weightsR (m : (ℓ : Loc nD τ sig) → Buf (Elt Ideal) ℓ) (c : Dev nD) : FVec Ideal S1x32x1024x4096 .f32 :=
  weights (scoresR m c) (rowMax (scoresR m c))

set_option maxRecDepth 16384 in
set_option maxHeartbeats 4000000 in
/-- The result is these steps, one after the other. -/
theorem result_eq (m : (ℓ : Loc nD τ sig) → Buf (Elt Ideal) ℓ) (c : Dev nD) :
    result m c = outOf (probs (anyRow maskR) (weightsR m c) (rowSum (weightsR m c))) (arg3 m c) (arg4 m c) := rfl

/-- The result, in plain terms. -/
theorem res_apply (m : (ℓ : Loc nD τ sig) → Buf (Elt Ideal) ℓ) (c : Dev nD) (i n : Fin 1024) :
    result m c (ix3 0 i n) = ∑ x : Fin 4096,
      head (fun e => ∑ t : Fin 1024, arg0 m c (ix3 0 i t) * arg1 m c (ix2 t (cof (hof x) e)))
        (fun j e => arg2 m c (ix4 0 j (hof x) e))
        (fun j => arg3 m c (ix4 0 j (hof x) (fof x))) (fun j => keep i.val j.val)
        * arg4 m c (ix2 x n) := by
  have hm : (fun j : Fin 4096 => maskOf blkQ blkK (ix2 i j)) = fun j => keep i.val j.val := funext (mask_apply i)
  have hM : anyRow maskR (ix1 i) = 1#1 := by
    rw [anyRow_apply, hm]; exact any_eq i
  rw [result_eq, outOf_apply]
  refine Finset.sum_congr rfl fun x _ => congrArg (fun z : EReal => z * arg4 m c (ix2 x n)) ?_
  rw [head]
  refine Finset.sum_congr rfl fun j _ => ?_
  rw [probs_apply _ _ _ _ _ _ hM, mul_comm]
  simp only [rowSum_apply, weights_eq, scores_apply, hm]

end Cert.Value.Ref

end
-- ==== Proof.Value.Equation.lean ====
/-
# The kernel computes the reference's value

Device `c`'s block of the result is rows `256 c …` of the reference's result, of the whole arrays its arguments are blocks of.
-/
module

public import proofs.«01_k».proof.Defs
public import proofs.«01_k».proof.Proof.Value.Device
public import proofs.«01_k».proof.Proof.Value.Reference
public import proofs.«01_k».proof.Proof.RunKernelIdeal.Launch
public import Idealize.ShloMosaic.Lib.Pipeline.ValueKit

@[expose] public section

noncomputable section

namespace Cert.Value

open Idealize.ShloMosaic Idealize.ShloMosaic.TcCoe Idealize.SL.Sem

/-! ## The columns of the heads, device by device -/

/-- The column of feature `f` of head `h` of device `d`. -/
abbrev colOf (d : Fin 4) (h : Fin 8) (f : Fin 128) : Fin 4096 := ⟨(d.val * 8 + h.val) * 128 + f.val, by omega⟩

/-- A sum over all columns is the sum over the devices, their heads and the heads' features. -/
theorem sum_cols (g : Fin 4096 → EReal) : ∑ x : Fin 4096, g x = ∑ d : Fin 4, ∑ h : Fin 8, ∑ f : Fin 128, g (colOf d h f) := by
  rw [← Fin.sum_mul_add_fin (S := 32) (n := 128) g, ← Fin.sum_mul_add_fin (S := 4) (n := 8)]

theorem hof_colOf (d : Fin 4) (h : Fin 8) (f : Fin 128) : Ref.hof (colOf d h f) = hd d h := Fin.ext (by
  show ((d.val * 8 + h.val) * 128 + f.val) / 128 = 8 * d.val + h.val
  omega)

theorem fof_colOf (d : Fin 4) (h : Fin 8) (f : Fin 128) : Ref.fof (colOf d h f) = f := Fin.ext (by
  show ((d.val * 8 + h.val) * 128 + f.val) % 128 = f.val
  omega)

section Blocks
variable (A0 : (⟨3, ![1, 1024, 1024]⟩ : Shape).Idx → EReal) (A1 : (⟨2, ![1024, 4096]⟩ : Shape).Idx → EReal) (A4 : (⟨2, ![4096, 1024]⟩ : Shape).Idx → EReal)

theorem rows_block (c : Fin 4) (r : Fin 256) (t : Fin 1024) :
    Layout.block ⟨3, ![1, 256, 1024]⟩ ⟨3, ![1, 1024, 1024]⟩ 1 4 c A0 (by decide) (ix3 0 r t) = A0 (ix3 0 ⟨256 * c.val + r.val, by omega⟩ t) := by
  rw [Layout.block_apply]
  refine congrArg A0 (funext fun a => Fin.ext ?_)
  match a with
  | 0 => rfl
  | 1 => show c.val * 256 + r.val = 256 * c.val + r.val; omega
  | 2 => rfl

theorem cols_block (d : Fin 4) (t : Fin 1024) (h : Fin 8) (e : Fin 128) :
    Layout.block ⟨2, ![1024, 1024]⟩ ⟨2, ![1024, 4096]⟩ 1 4 d A1 (by decide) (ix2 t (col h e)) = A1 (ix2 t (Ref.cof (hd d h) e)) := by
  rw [Layout.block_apply]
  refine congrArg A1 (funext fun a => Fin.ext ?_)
  match a with
  | 0 => rfl
  | 1 => show d.val * 1024 + (128 * h.val + e.val) = (8 * d.val + h.val) * 128 + e.val; omega

theorem out_block (d : Fin 4) (h : Fin 8) (f : Fin 128) (n : Fin 1024) :
    Layout.block ⟨2, ![1024, 1024]⟩ ⟨2, ![4096, 1024]⟩ 0 4 d A4 (by decide) (ix2 (col h f) n) = A4 (ix2 (colOf d h f) n) := by
  rw [Layout.block_apply]
  refine congrArg A4 (funext fun a => Fin.ext ?_)
  match a with
  | 0 => show d.val * 1024 + (128 * h.val + f.val) = (d.val * 8 + h.val) * 128 + f.val; omega
  | 1 => rfl

end Blocks

/-! ## The windows are the whole arrays -/

section Whole
open Cert.KernelIdeal Cert.KernelIdeal.Gen Cert.RunKernelIdeal
variable (m : (ℓ : Loc nD τ sig) → Buf (Elt Ideal) ℓ)

theorem xst_eq (c : Dev nD) : xst m c = m (c.tc.loc main_arg0) :=
  Memref.read_access_unit_zero (Elt Ideal) main_arg0 (by funext a; fin_cases a <;> rfl) _ _
theorem wqst_eq (c : Dev nD) : wqst m c = m (c.tc.loc main_arg1) :=
  Memref.read_access_unit_zero (Elt Ideal) main_arg1 (by funext a; fin_cases a <;> rfl) _ _
theorem wost_eq (c : Dev nD) : wost m c = m (c.tc.loc main_arg4) :=
  Memref.read_access_unit_zero (Elt Ideal) main_arg4 (by funext a; fin_cases a <;> rfl) _ _

/-- The result's array ends holding the block the device computed. -/
theorem finalA_out (c : Dev nD) : finalA m c 3 = outst m c := by
  refine (dats m 0 c).arrAt_eq_of_after_last 3 t0_0 (by decide +kernel) _ fun j => ?_
  rfl

end Whole

/-! ## The equation -/

section Value
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The kernel's arguments, over its devices, are the reference's, cut as the claim cuts them. -/
def Cut : Prop := ∀ c : Dev Cert.KernelIdeal.nD,
  m ((c.tc : Thread Cert.KernelIdeal.nD Cert.KernelIdeal.τ).loc Cert.KernelIdeal.main_arg0) = Layout.block ⟨3, ![1, 256, 1024]⟩ ⟨3, ![1, 1024, 1024]⟩ 1 4 c (Ref.arg0 m' 0)
  ∧ m ((c.tc : Thread Cert.KernelIdeal.nD Cert.KernelIdeal.τ).loc Cert.KernelIdeal.main_arg1) = Layout.block ⟨2, ![1024, 1024]⟩ ⟨2, ![1024, 4096]⟩ 1 4 c (Ref.arg1 m' 0)
  ∧ m ((c.tc : Thread Cert.KernelIdeal.nD Cert.KernelIdeal.τ).loc Cert.KernelIdeal.main_arg2) = Ref.arg2 m' 0
  ∧ m ((c.tc : Thread Cert.KernelIdeal.nD Cert.KernelIdeal.τ).loc Cert.KernelIdeal.main_arg3) = Ref.arg3 m' 0
  ∧ m ((c.tc : Thread Cert.KernelIdeal.nD Cert.KernelIdeal.τ).loc Cert.KernelIdeal.main_arg4) = Layout.block ⟨2, ![1024, 1024]⟩ ⟨2, ![4096, 1024]⟩ 0 4 c (Ref.arg4 m' 0)

variable {m m'}

open Cert.RunKernelIdeal in
/-- An element of a device's block is the reference's element. -/
theorem outst_apply (hc : Cut m m') (c : Dev Cert.KernelIdeal.nD) (r : Fin 256) (n : Fin 1024) :
    (outst m c : FVec Ideal Cert.KernelIdeal.S1x256x1024 .f32) (ix3 0 r n) = Ref.result m' 0 (ix3 0 ⟨256 * c.val + r.val, by have := c.isLt; change c.val < 4 at this; omega⟩ n) := by
  have hx : ∀ t : Fin 1024, xst m c (ix3 0 r t) = Ref.arg0 m' 0 (ix3 0 ⟨256 * c.val + r.val, by have := c.isLt; change c.val < 4 at this; omega⟩ t) :=
    fun t => (congrFun ((xst_eq m c).trans (hc c).1) _).trans (rows_block _ c r t)
  have hq : ∀ (d : Dev Cert.KernelIdeal.nD) (t : Fin 1024) (h : Fin 8) (e : Fin 128), wqst m d (ix2 t (col h e)) = Ref.arg1 m' 0 (ix2 t (Ref.cof (hd d h) e)) :=
    fun d t h e => (congrFun ((wqst_eq m d).trans (hc d).2.1) _).trans (cols_block _ d t h e)
  have ho : ∀ (d : Dev Cert.KernelIdeal.nD) (h : Fin 8) (f : Fin 128), wost m d (ix2 (col h f) n) = Ref.arg4 m' 0 (ix2 (colOf d h f) n) :=
    fun d h f => (congrFun ((wost_eq m d).trans (hc d).2.2.2.2) _).trans (out_block _ d h f n)
  have hk : ∀ d : Dev Cert.KernelIdeal.nD, kst m d = Ref.arg2 m' 0 := fun d => (hc d).2.2.1
  have hv : ∀ d : Dev Cert.KernelIdeal.nD, vst m d = Ref.arg3 m' 0 := fun d => (hc d).2.2.2.1
  rw [outst, outv_apply, Ref.res_apply, sum_cols]
  refine Finset.sum_congr rfl fun d _ => ?_
  unfold contrib
  refine Finset.sum_congr rfl fun h _ => Finset.sum_congr rfl fun f _ => ?_
  rw [hof_colOf, fof_colOf, ho, hk, hv]
  simp only [hx, hq]

open Cert.RunKernelIdeal in
/-- A device's block of the result is its block of the reference's result. -/
theorem outst_eq (hc : Cut m m') (c : Dev Cert.KernelIdeal.nD) :
    (outst m c : FVec Ideal Cert.KernelIdeal.S1x256x1024 .f32) = Layout.block ⟨3, ![1, 256, 1024]⟩ ⟨3, ![1, 1024, 1024]⟩ 1 4 c (Ref.result m' 0) := by
  funext i
  have hi : i = ix3 0 (i 1) (i 2) := by
    funext a
    match a with
    | 0 => exact Fin.ext (by have := (i 0).isLt; change (i 0).val < 1 at this; show (i 0).val = 0; omega)
    | 1 => rfl
    | 2 => rfl
  rw [hi]
  exact (outst_apply hc c (i 1) (i 2)).trans (rows_block _ c (i 1) (i 2)).symm

end Value

/-- Run on blocks of the reference's arguments, the devices end holding blocks of the reference's result. -/
theorem algebraic : Cert.algebraic_KernelIdeal_ReferenceIdeal (hKernelIdeal := Cert.KernelIdeal.Gen.facts)
    (hReferenceIdeal := Cert.ReferenceIdeal.Gen.facts) := fun m g m' g' _ hc =>
  ⟨Cert.ReferenceIdeal.Value.res_main_v45 m' 0,
    (θ_run Cert.KernelIdeal.defs _ _).mono
      (fun r h c => ⟨((h.1 c).1 3).trans ((finalA_out m c).trans (outst_eq (m' := m') hc c)),
        ((h.1 c).1 0).trans (Cert.RunKernelIdeal.finalA_in m c 0 rfl), ((h.1 c).1 1).trans (Cert.RunKernelIdeal.finalA_in m c 1 rfl),
        (h.1 c).2.1, (h.1 c).2.2, ((h.1 c).1 2).trans (Cert.RunKernelIdeal.finalA_in m c 2 rfl)⟩)
      (Cert.RunKernelIdeal.run_main m g),
    (θ_run Cert.ReferenceIdeal.defs _ _).mono (fun r h => ⟨(h 0).1, (h 0).2⟩) (Cert.ReferenceIdeal.Value.run (F := Ideal) m' g')⟩

end Cert.Value

end
-- ==== Proof.lean ====
/-
# The claims

Both programs of the kernel run to the end with their arguments as before and every counter at zero; so does the
reference; and over exact numbers the kernel's devices end holding the blocks of the reference's result.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.RunKernel.Launch
public import proofs.«01_k».proof.Proof.RunKernelIdeal.Launch
public import proofs.«01_k».proof.Proof.Value.Equation
public import Idealize.ShloMosaic.Adequacy
public import Idealize.ShloMosaic.Init

@[expose] public section

noncomputable section

namespace Cert.Proof

open Idealize.ShloMosaic Idealize.SL.Sem

/-- The reference is a sequence of operations of one device: its run ends with the arguments as before, and it declares
    no counter. -/
theorem quiescent_reference : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The claims together. -/
theorem claim : Cert.Claim :=
  ⟨Cert.Kernel.Gen.facts, Cert.KernelIdeal.Gen.facts, Cert.ReferenceIdeal.Gen.facts,
    fun m g _ => Cert.RunKernel.run_frame m g, fun m g _ => Cert.RunKernelIdeal.run_frame m g, quiescent_reference, trivial,
    Cert.Value.algebraic⟩

end Cert.Proof

end
